-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_codes_finite_tables [hPre_binary_codes_finite_tables : Cert.Pre_binary_codes_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_binary_codes_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_codes_finite_tables [hPre_binary_codes_finite_tables : Cert.Pre_binary_codes_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_codes_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_binary_codes_finite_tables [hKernelIdeal : Cert.KernelIdeal.Facts] [hPre_binary_codes_finite_tables : Cert.Pre_binary_codes_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_codes_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_binary_codes_finite_tables [hReferenceIdeal : Cert.ReferenceIdeal.Facts] [hPre_binary_codes_finite_tables : Cert.Pre_binary_codes_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_codes_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "fifth" .f32 0x3E4CCCCD#32 ((1 / 5 : ℝ) : EReal)

def algebraic_KernelIdeal_ReferenceIdeal_pre_binary_codes_finite_tables [hKernelIdeal : Cert.KernelIdeal.Facts] [hReferenceIdeal : Cert.ReferenceIdeal.Facts] [hPre_binary_codes_finite_tables : Cert.Pre_binary_codes_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_codes_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_arg5)) (v2 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg5) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg5) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_binary_codes_finite_tables : Cert.Pre_binary_codes_finite_tables.Facts),
    quiescent_Kernel (hKernel := hKernel)
    ∧ quiescent_KernelIdeal (hKernelIdeal := hKernelIdeal)
    ∧ quiescent_KernelIdeal_pre_binary_codes_finite_tables (hKernelIdeal := hKernelIdeal) (hPre_binary_codes_finite_tables := hPre_binary_codes_finite_tables)
    ∧ quiescent_ReferenceIdeal (hReferenceIdeal := hReferenceIdeal)
    ∧ quiescent_ReferenceIdeal_pre_binary_codes_finite_tables (hReferenceIdeal := hReferenceIdeal) (hPre_binary_codes_finite_tables := hPre_binary_codes_finite_tables)
    ∧ preserves_Kernel_KernelIdeal
    ∧ algebraic_KernelIdeal_ReferenceIdeal_pre_binary_codes_finite_tables (hKernelIdeal := hKernelIdeal) (hReferenceIdeal := hReferenceIdeal) (hPre_binary_codes_finite_tables := hPre_binary_codes_finite_tables)
-- ==== Pre_binary_codes_finite_tables.lean ====
abbrev S4096x200x3 : Shape := ⟨3, ![4096, 200, 3]⟩
abbrev S4096x200x2 : Shape := ⟨3, ![4096, 200, 2]⟩
abbrev S4096x200x5 : Shape := ⟨3, ![4096, 200, 5]⟩
abbrev S4096 : Shape := ⟨1, ![4096]⟩
abbrev S4096x200x1 : Shape := ⟨3, ![4096, 200, 1]⟩
abbrev S32x3 : Shape := ⟨2, ![32, 3]⟩
abbrev S32 : Shape := ⟨1, ![32]⟩
abbrev S32x32 : Shape := ⟨2, ![32, 32]⟩
abbrev S32x2 : Shape := ⟨2, ![32, 2]⟩
abbrev S2x32 : Shape := ⟨2, ![2, 32]⟩
abbrev S11x32 : Shape := ⟨2, ![11, 32]⟩
abbrev S34x32 : Shape := ⟨2, ![34, 32]⟩
abbrev S19x32 : Shape := ⟨2, ![19, 32]⟩
abbrev S31x32 : Shape := ⟨2, ![31, 32]⟩
abbrev S_ : Shape := ⟨0, ![]⟩

class Facts : Prop where
  bcast_S_S4096x200x5 : S_.BroadcastsInDim S4096x200x5 (![] : Fin 0 → Fin S4096x200x5.rank)
  reducesTo_S4096x200x5_S_d0_1_2 : S4096x200x5.ReducesTo [0, 1, 2] S_
  h_S_ : 0 < S_.numel
  bcast_S_S4096x200x2 : S_.BroadcastsInDim S4096x200x2 (![] : Fin 0 → Fin S4096x200x2.rank)
  reducesTo_S4096x200x2_S_d0_1_2 : S4096x200x2.ReducesTo [0, 1, 2] S_
  bcast_S_S2x32 : S_.BroadcastsInDim S2x32 (![] : Fin 0 → Fin S2x32.rank)
  reducesTo_S2x32_S_d0_1 : S2x32.ReducesTo [0, 1] S_
  slices_S11x32_S2x32_0_0 : S11x32.Slices ![0, 0] S2x32
  slices_S34x32_S2x32_0_0 : S34x32.Slices ![0, 0] S2x32
  slices_S19x32_S2x32_0_0 : S19x32.Slices ![0, 0] S2x32
  slices_S31x32_S2x32_0_0 : S31x32.Slices ![0, 0] S2x32

variable [Facts]

def fn_part2 {F : FTy → Type} [FloatOps F] (main_arg19 : FVec F S19x32 .f32) (main_arg20 : FVec F S31x32 .f32) (main_v12 : IVec S_ 1) (main_v16 : IVec S_ 1) (main_v20 : IVec S_ 1) (main_v24 : IVec S_ 1) (main_v29 : IVec S_ 1) (main_v31 : FVec F S2x32 .f32) (main_v32 : FVec F S2x32 .f32) : IVec S_ 1 :=
  let main_v33 : IVec S2x32 1 := cmpf .olt main_v31 main_v32
  let main_c_13 : IVec S_ 1 := constantI S_ 1 1#1
  let main_v34 : IVec S_ 1 := (fun x v => Host.reduce IntOp.andi x v reducesTo_S2x32_S_d0_1 h_S_) main_v33 main_c_13
  let main_v35 : FVec F S2x32 .f32 := (extractStridedSlice S2x32 ![0, 0] · slices_S19x32_S2x32_0_0) main_arg19
  let main_v36 : FVec F S2x32 .f32 := Host.absf main_v35
  let main_cst_14 : FVec F S_ .f32 := constant S_ .f32 0x7F800000#32
  let main_v37 : FVec F S2x32 .f32 := broadcastInDim S2x32 ![] bcast_S_S2x32 main_cst_14
  let main_v38 : IVec S2x32 1 := cmpf .olt main_v36 main_v37
  let main_c_15 : IVec S_ 1 := constantI S_ 1 1#1
  let main_v39 : IVec S_ 1 := (fun x v => Host.reduce IntOp.andi x v reducesTo_S2x32_S_d0_1 h_S_) main_v38 main_c_15
  let main_v40 : FVec F S2x32 .f32 := (extractStridedSlice S2x32 ![0, 0] · slices_S31x32_S2x32_0_0) main_arg20
  let main_v41 : FVec F S2x32 .f32 := Host.absf main_v40
  let main_cst_16 : FVec F S_ .f32 := constant S_ .f32 0x7F800000#32
  let main_v42 : FVec F S2x32 .f32 := broadcastInDim S2x32 ![] bcast_S_S2x32 main_cst_16
  let main_v43 : IVec S2x32 1 := cmpf .olt main_v41 main_v42
  let main_c_17 : IVec S_ 1 := constantI S_ 1 1#1
  let main_v44 : IVec S_ 1 := (fun x v => Host.reduce IntOp.andi x v reducesTo_S2x32_S_d0_1 h_S_) main_v43 main_c_17
  let main_v45 : IVec S_ 1 := andi main_v12 main_v16
  let main_v46 : IVec S_ 1 := andi main_v45 main_v20
  let main_v47 : IVec S_ 1 := andi main_v46 main_v24
  let main_v48 : IVec S_ 1 := andi main_v47 main_v29
  let main_v49 : IVec S_ 1 := andi main_v48 main_v34
  let main_v50 : IVec S_ 1 := andi main_v49 main_v39
  let main_v51 : IVec S_ 1 := andi main_v50 main_v44
  main_v51

def fn_part1 {F : FTy → Type} [FloatOps F] (main_arg15 : FVec F S2x32 .f32) (main_arg16 : FVec F S2x32 .f32) (main_arg17 : FVec F S11x32 .f32) (main_arg18 : FVec F S34x32 .f32) (main_arg19 : FVec F S19x32 .f32) (main_arg20 : FVec F S31x32 .f32) (main_v12 : IVec S_ 1) (main_v15 : IVec S2x32 1) (main_c_5 : IVec S_ 1) : IVec S_ 1 :=
  let main_v16 : IVec S_ 1 := (fun x v => Host.reduce IntOp.andi x v reducesTo_S2x32_S_d0_1 h_S_) main_v15 main_c_5
  let main_v17 : FVec F S2x32 .f32 := Host.absf main_arg15
  let main_cst_6 : FVec F S_ .f32 := constant S_ .f32 0x7F800000#32
  let main_v18 : FVec F S2x32 .f32 := broadcastInDim S2x32 ![] bcast_S_S2x32 main_cst_6
  let main_v19 : IVec S2x32 1 := cmpf .olt main_v17 main_v18
  let main_c_7 : IVec S_ 1 := constantI S_ 1 1#1
  let main_v20 : IVec S_ 1 := (fun x v => Host.reduce IntOp.andi x v reducesTo_S2x32_S_d0_1 h_S_) main_v19 main_c_7
  let main_v21 : FVec F S2x32 .f32 := Host.absf main_arg16
  let main_cst_8 : FVec F S_ .f32 := constant S_ .f32 0x7F800000#32
  let main_v22 : FVec F S2x32 .f32 := broadcastInDim S2x32 ![] bcast_S_S2x32 main_cst_8
  let main_v23 : IVec S2x32 1 := cmpf .olt main_v21 main_v22
  let main_c_9 : IVec S_ 1 := constantI S_ 1 1#1
  let main_v24 : IVec S_ 1 := (fun x v => Host.reduce IntOp.andi x v reducesTo_S2x32_S_d0_1 h_S_) main_v23 main_c_9
  let main_v25 : FVec F S2x32 .f32 := (extractStridedSlice S2x32 ![0, 0] · slices_S11x32_S2x32_0_0) main_arg17
  let main_v26 : FVec F S2x32 .f32 := Host.absf main_v25
  let main_cst_10 : FVec F S_ .f32 := constant S_ .f32 0x7F800000#32
  let main_v27 : FVec F S2x32 .f32 := broadcastInDim S2x32 ![] bcast_S_S2x32 main_cst_10
  let main_v28 : IVec S2x32 1 := cmpf .olt main_v26 main_v27
  let main_c_11 : IVec S_ 1 := constantI S_ 1 1#1
  let main_v29 : IVec S_ 1 := (fun x v => Host.reduce IntOp.andi x v reducesTo_S2x32_S_d0_1 h_S_) main_v28 main_c_11
  let main_v30 : FVec F S2x32 .f32 := (extractStridedSlice S2x32 ![0, 0] · slices_S34x32_S2x32_0_0) main_arg18
  let main_v31 : FVec F S2x32 .f32 := Host.absf main_v30
  let main_cst_12 : FVec F S_ .f32 := constant S_ .f32 0x7F800000#32
  let main_v32 : FVec F S2x32 .f32 := broadcastInDim S2x32 ![] bcast_S_S2x32 main_cst_12
  fn_part2 (F := F) main_arg19 main_arg20 main_v12 main_v16 main_v20 main_v24 main_v29 main_v31 main_v32

def fn {F : FTy → Type} [FloatOps F] (main_arg0 : FVec F S4096x200x3 .f32) (main_arg1 : FVec F S4096x200x2 .f32) (main_arg2 : IVec S4096x200x5 32) (main_arg3 : IVec S4096x200x2 32) (main_arg4 : IVec S4096 32) (main_arg5 : FVec F S4096x200x1 .f32) (main_arg6 : FVec F S32x3 .f32) (main_arg7 : FVec F S32 .f32) (main_arg8 : FVec F S32x32 .f32) (main_arg9 : FVec F S32 .f32) (main_arg10 : FVec F S32x2 .f32) (main_arg11 : FVec F S32 .f32) (main_arg12 : FVec F S32x32 .f32) (main_arg13 : FVec F S32 .f32) (main_arg14 : FVec F S2x32 .f32) (main_arg15 : FVec F S2x32 .f32) (main_arg16 : FVec F S2x32 .f32) (main_arg17 : FVec F S11x32 .f32) (main_arg18 : FVec F S34x32 .f32) (main_arg19 : FVec F S19x32 .f32) (main_arg20 : FVec F S31x32 .f32) : IVec S_ 1 :=
  let main_c : IVec S_ 32 := constantI S_ 32 0#32
  let main_v0 : IVec S4096x200x5 32 := broadcastInDim S4096x200x5 ![] bcast_S_S4096x200x5 main_c
  let main_v1 : IVec S4096x200x5 1 := cmpi .sge main_arg2 main_v0
  let main_c_0 : IVec S_ 32 := constantI S_ 32 1#32
  let main_v2 : IVec S4096x200x5 32 := broadcastInDim S4096x200x5 ![] bcast_S_S4096x200x5 main_c_0
  let main_v3 : IVec S4096x200x5 1 := cmpi .sle main_arg2 main_v2
  let main_v4 : IVec S4096x200x5 1 := andi main_v1 main_v3
  let main_c_1 : IVec S_ 1 := constantI S_ 1 1#1
  let main_v5 : IVec S_ 1 := (fun x v => Host.reduce IntOp.andi x v reducesTo_S4096x200x5_S_d0_1_2 h_S_) main_v4 main_c_1
  let main_c_2 : IVec S_ 32 := constantI S_ 32 0#32
  let main_v6 : IVec S4096x200x2 32 := broadcastInDim S4096x200x2 ![] bcast_S_S4096x200x2 main_c_2
  let main_v7 : IVec S4096x200x2 1 := cmpi .sge main_arg3 main_v6
  let main_c_3 : IVec S_ 32 := constantI S_ 32 1#32
  let main_v8 : IVec S4096x200x2 32 := broadcastInDim S4096x200x2 ![] bcast_S_S4096x200x2 main_c_3
  let main_v9 : IVec S4096x200x2 1 := cmpi .sle main_arg3 main_v8
  let main_v10 : IVec S4096x200x2 1 := andi main_v7 main_v9
  let main_c_4 : IVec S_ 1 := constantI S_ 1 1#1
  let main_v11 : IVec S_ 1 := (fun x v => Host.reduce IntOp.andi x v reducesTo_S4096x200x2_S_d0_1_2 h_S_) main_v10 main_c_4
  let main_v12 : IVec S_ 1 := andi main_v5 main_v11
  let main_v13 : FVec F S2x32 .f32 := Host.absf main_arg14
  let main_cst : FVec F S_ .f32 := constant S_ .f32 0x7F800000#32
  let main_v14 : FVec F S2x32 .f32 := broadcastInDim S2x32 ![] bcast_S_S2x32 main_cst
  let main_v15 : IVec S2x32 1 := cmpf .olt main_v13 main_v14
  let main_c_5 : IVec S_ 1 := constantI S_ 1 1#1
  fn_part1 (F := F) main_arg15 main_arg16 main_arg17 main_arg18 main_arg19 main_arg20 main_v12 main_v15 main_c_5
-- ==== Kernel.lean ====
abbrev S4096x200x3 : Shape := ⟨3, ![4096, 200, 3]⟩
abbrev S4096x200x2 : Shape := ⟨3, ![4096, 200, 2]⟩
abbrev S4096x200x5 : Shape := ⟨3, ![4096, 200, 5]⟩
abbrev S4096 : Shape := ⟨1, ![4096]⟩
abbrev S4096x200x1 : Shape := ⟨3, ![4096, 200, 1]⟩
abbrev S32x3 : Shape := ⟨2, ![32, 3]⟩
abbrev S32 : Shape := ⟨1, ![32]⟩
abbrev S32x32 : Shape := ⟨2, ![32, 32]⟩
abbrev S32x2 : Shape := ⟨2, ![32, 2]⟩
abbrev S2x32 : Shape := ⟨2, ![2, 32]⟩
abbrev S11x32 : Shape := ⟨2, ![11, 32]⟩
abbrev S34x32 : Shape := ⟨2, ![34, 32]⟩
abbrev S19x32 : Shape := ⟨2, ![19, 32]⟩
abbrev S31x32 : Shape := ⟨2, ![31, 32]⟩
abbrev S1x32 : Shape := ⟨2, ![1, 32]⟩
abbrev S7x32 : Shape := ⟨2, ![7, 32]⟩
abbrev S5x32 : Shape := ⟨2, ![5, 32]⟩
abbrev S_ : Shape := ⟨0, ![]⟩
abbrev S3x32 : Shape := ⟨2, ![3, 32]⟩
abbrev S3x64 : Shape := ⟨2, ![3, 64]⟩
abbrev S2x64 : Shape := ⟨2, ![2, 64]⟩
abbrev S7x64 : Shape := ⟨2, ![7, 64]⟩
abbrev S12x64 : Shape := ⟨2, ![12, 64]⟩
abbrev S12x12 : Shape := ⟨2, ![12, 12]⟩
abbrev S12x52 : Shape := ⟨2, ![12, 52]⟩
abbrev S12x128 : Shape := ⟨2, ![12, 128]⟩
abbrev S5x128 : Shape := ⟨2, ![5, 128]⟩
abbrev S5x96 : Shape := ⟨2, ![5, 96]⟩
abbrev S2x128 : Shape := ⟨2, ![2, 128]⟩
abbrev S32x64 : Shape := ⟨2, ![32, 64]⟩
abbrev S32x128 : Shape := ⟨2, ![32, 128]⟩
abbrev S32x96 : Shape := ⟨2, ![32, 96]⟩
abbrev S64x128 : Shape := ⟨2, ![64, 128]⟩
abbrev S52x128 : Shape := ⟨2, ![52, 128]⟩
abbrev S128x128 : Shape := ⟨2, ![128, 128]⟩
abbrev S64 : Shape := ⟨1, ![64]⟩
abbrev S1x64 : Shape := ⟨2, ![1, 64]⟩
abbrev S128 : Shape := ⟨1, ![128]⟩
abbrev S1x128 : Shape := ⟨2, ![1, 128]⟩
abbrev S143x128 : Shape := ⟨2, ![143, 128]⟩
abbrev S3x200x4096 : Shape := ⟨3, ![3, 200, 4096]⟩
abbrev S2x200x4096 : Shape := ⟨3, ![2, 200, 4096]⟩
abbrev S5x200x4096 : Shape := ⟨3, ![5, 200, 4096]⟩
abbrev S4096x200x128 : Shape := ⟨3, ![4096, 200, 128]⟩
abbrev S3x40x256 : Shape := ⟨3, ![3, 40, 256]⟩
abbrev S2x40x256 : Shape := ⟨3, ![2, 40, 256]⟩
abbrev S5x40x256 : Shape := ⟨3, ![5, 40, 256]⟩
abbrev S256x40x128 : Shape := ⟨3, ![256, 40, 128]⟩
abbrev S12x40x256 : Shape := ⟨3, ![12, 40, 256]⟩
abbrev S256x40x12 : Shape := ⟨3, ![256, 40, 12]⟩
abbrev S10240x12 : Shape := ⟨2, ![10240, 12]⟩
abbrev S10240x128 : Shape := ⟨2, ![10240, 128]⟩

abbrev nBuf : Space → Nat
  | .hbm => 139
  | .vmem => 11
  | .smem => 0
  | _ => 0

abbrev hbmTy0_0 (i : Nat) : BufTy := match i % 128 with
  | 0 => ⟨S4096x200x3, .f32⟩
  | 1 => ⟨S4096x200x2, .f32⟩
  | 2 => ⟨S4096x200x5, .i32⟩
  | 3 => ⟨S4096x200x2, .i32⟩
  | 4 => ⟨S4096, .i32⟩
  | 5 => ⟨S4096x200x1, .f32⟩
  | 6 => ⟨S32x3, .f32⟩
  | 7 => ⟨S32, .f32⟩
  | 8 => ⟨S32x32, .f32⟩
  | 9 => ⟨S32, .f32⟩
  | 10 => ⟨S32x2, .f32⟩
  | 11 => ⟨S32, .f32⟩
  | 12 => ⟨S32x32, .f32⟩
  | 13 => ⟨S32, .f32⟩
  | 14 => ⟨S2x32, .f32⟩
  | 15 => ⟨S2x32, .f32⟩
  | 16 => ⟨S2x32, .f32⟩
  | 17 => ⟨S11x32, .f32⟩
  | 18 => ⟨S34x32, .f32⟩
  | 19 => ⟨S19x32, .f32⟩
  | 20 => ⟨S31x32, .f32⟩
  | 21 => ⟨S1x32, .f32⟩
  | 22 => ⟨S32, .f32⟩
  | 23 => ⟨S1x32, .f32⟩
  | 24 => ⟨S32, .f32⟩
  | 25 => ⟨S1x32, .f32⟩
  | 26 => ⟨S32, .f32⟩
  | 27 => ⟨S1x32, .f32⟩
  | 28 => ⟨S32, .f32⟩
  | 29 => ⟨S1x32, .f32⟩
  | 30 => ⟨S32, .f32⟩
  | 31 => ⟨S1x32, .f32⟩
  | 32 => ⟨S32, .f32⟩
  | 33 => ⟨S1x32, .f32⟩
  | 34 => ⟨S32, .f32⟩
  | 35 => ⟨S1x32, .f32⟩
  | 36 => ⟨S1x32, .f32⟩
  | 37 => ⟨S1x32, .f32⟩
  | 38 => ⟨S1x32, .f32⟩
  | 39 => ⟨S1x32, .f32⟩
  | 40 => ⟨S1x32, .f32⟩
  | 41 => ⟨S1x32, .f32⟩
  | 42 => ⟨S7x32, .f32⟩
  | 43 => ⟨S1x32, .f32⟩
  | 44 => ⟨S32, .f32⟩
  | 45 => ⟨S1x32, .f32⟩
  | 46 => ⟨S32, .f32⟩
  | 47 => ⟨S1x32, .f32⟩
  | 48 => ⟨S32, .f32⟩
  | 49 => ⟨S1x32, .f32⟩
  | 50 => ⟨S32, .f32⟩
  | 51 => ⟨S1x32, .f32⟩
  | 52 => ⟨S32, .f32⟩
  | 53 => ⟨S1x32, .f32⟩
  | 54 => ⟨S32, .f32⟩
  | 55 => ⟨S1x32, .f32⟩
  | 56 => ⟨S32, .f32⟩
  | 57 => ⟨S1x32, .f32⟩
  | 58 => ⟨S1x32, .f32⟩
  | 59 => ⟨S1x32, .f32⟩
  | 60 => ⟨S1x32, .f32⟩
  | 61 => ⟨S1x32, .f32⟩
  | 62 => ⟨S1x32, .f32⟩
  | 63 => ⟨S1x32, .f32⟩
  | 64 => ⟨S7x32, .f32⟩
  | 65 => ⟨S7x32, .f32⟩
  | 66 => ⟨S5x32, .f32⟩
  | 67 => ⟨S_, .f32⟩
  | 68 => ⟨S32, .f32⟩
  | 69 => ⟨S2x32, .f32⟩
  | 70 => ⟨S_, .f32⟩
  | 71 => ⟨S32, .f32⟩
  | 72 => ⟨S3x32, .f32⟩
  | 73 => ⟨S_, .f32⟩
  | 74 => ⟨S3x32, .f32⟩
  | 75 => ⟨S3x64, .f32⟩
  | 76 => ⟨S_, .f32⟩
  | 77 => ⟨S2x32, .f32⟩
  | 78 => ⟨S2x32, .f32⟩
  | 79 => ⟨S2x64, .f32⟩
  | 80 => ⟨S_, .f32⟩
  | 81 => ⟨S7x64, .f32⟩
  | 82 => ⟨S12x64, .f32⟩
  | 83 => ⟨S12x12, .i32⟩
  | 84 => ⟨S12x12, .i32⟩
  | 85 => ⟨S_, .i32⟩
  | 86 => ⟨S12x12, .i32⟩
  | 87 => ⟨S12x12, .i32⟩
  | 88 => ⟨S12x12, .i1⟩
  | 89 => ⟨S12x12, .f32⟩
  | 90 => ⟨S_, .f32⟩
  | 91 => ⟨S12x52, .f32⟩
  | 92 => ⟨S12x128, .f32⟩
  | 93 => ⟨S_, .f32⟩
  | 94 => ⟨S5x128, .f32⟩
  | 95 => ⟨S5x32, .f32⟩
  | 96 => ⟨S_, .f32⟩
  | 97 => ⟨S5x96, .f32⟩
  | 98 => ⟨S5x128, .f32⟩
  | 99 => ⟨S_, .f32⟩
  | 100 => ⟨S2x32, .f32⟩
  | 101 => ⟨S2x32, .f32⟩
  | 102 => ⟨S_, .f32⟩
  | 103 => ⟨S2x64, .f32⟩
  | 104 => ⟨S2x128, .f32⟩
  | 105 => ⟨S12x128, .f32⟩
  | 106 => ⟨S_, .f32⟩
  | 107 => ⟨S32x64, .f32⟩
  | 108 => ⟨S32x32, .f32⟩
  | 109 => ⟨S_, .f32⟩
  | 110 => ⟨S32x32, .f32⟩
  | 111 => ⟨S32x128, .f32⟩
  | 112 => ⟨S_, .f32⟩
  | 113 => ⟨S32x96, .f32⟩
  | 114 => ⟨S32x32, .f32⟩
  | 115 => ⟨S32x128, .f32⟩
  | 116 => ⟨S64x128, .f32⟩
  | 117 => ⟨S_, .f32⟩
  | 118 => ⟨S52x128, .f32⟩
  | 119 => ⟨S128x128, .f32⟩
  | 120 => ⟨S64, .f32⟩
  | 121 => ⟨S1x64, .f32⟩
  | 122 => ⟨S128, .f32⟩
  | 123 => ⟨S1x128, .f32⟩
  | 124 => ⟨S128, .i32⟩
  | 125 => ⟨S_, .i32⟩
  | 126 => ⟨S128, .i32⟩
  | 127 => ⟨S128, .i1⟩
  | _ => ⟨S4096x200x3, .f32⟩

abbrev hbmTy0_1 (i : Nat) : BufTy := match i % 128 with
  | 0 => ⟨S128, .f32⟩
  | 1 => ⟨S1x128, .f32⟩
  | 2 => ⟨S_, .f32⟩
  | 3 => ⟨S1x64, .f32⟩
  | 4 => ⟨S1x128, .f32⟩
  | 5 => ⟨S143x128, .f32⟩
  | 6 => ⟨S3x200x4096, .f32⟩
  | 7 => ⟨S2x200x4096, .f32⟩
  | 8 => ⟨S5x200x4096, .i32⟩
  | 9 => ⟨S2x200x4096, .i32⟩
  | 10 => ⟨S4096x200x128, .f32⟩
  | _ => ⟨S4096x200x3, .f32⟩

abbrev hbmTy (i : Nat) : BufTy := match i / 128 with
  | 0 => hbmTy0_0 i
  | 1 => hbmTy0_1 i
  | _ => ⟨S4096x200x3, .f32⟩

abbrev bufTy : (tb : Table) → Fin (tcTables nBuf tb) → BufTy
  | .hbm, ⟨i, _⟩ => hbmTy i
  | .local _ .vmem, ⟨0, _⟩ => ⟨S3x40x256, .f32⟩
  | .local _ .vmem, ⟨1, _⟩ => ⟨S3x40x256, .f32⟩
  | .local _ .vmem, ⟨2, _⟩ => ⟨S2x40x256, .f32⟩
  | .local _ .vmem, ⟨3, _⟩ => ⟨S2x40x256, .f32⟩
  | .local _ .vmem, ⟨4, _⟩ => ⟨S5x40x256, .i32⟩
  | .local _ .vmem, ⟨5, _⟩ => ⟨S5x40x256, .i32⟩
  | .local _ .vmem, ⟨6, _⟩ => ⟨S2x40x256, .i32⟩
  | .local _ .vmem, ⟨7, _⟩ => ⟨S2x40x256, .i32⟩
  | .local _ .vmem, ⟨8, _⟩ => ⟨S143x128, .f32⟩
  | .local _ .vmem, ⟨9, _⟩ => ⟨S256x40x128, .f32⟩
  | .local _ .vmem, ⟨10, _⟩ => ⟨S256x40x128, .f32⟩
  | _, _ => ⟨S4096x200x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst : Ref sig .tc := ⟨.hbm, 67, rfl⟩
abbrev main_v46 : Ref sig .tc := ⟨.hbm, 68, rfl⟩
abbrev main_v47 : Ref sig .tc := ⟨.hbm, 69, rfl⟩
abbrev main_cst_0 : Ref sig .tc := ⟨.hbm, 70, rfl⟩
abbrev main_v48 : Ref sig .tc := ⟨.hbm, 71, rfl⟩
abbrev main_v49 : Ref sig .tc := ⟨.hbm, 72, rfl⟩
abbrev main_cst_1 : Ref sig .tc := ⟨.hbm, 73, rfl⟩
abbrev main_v50 : Ref sig .tc := ⟨.hbm, 74, rfl⟩
abbrev main_v51 : Ref sig .tc := ⟨.hbm, 75, rfl⟩
abbrev main_cst_2 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_3 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_4 : Ref sig .tc := ⟨.hbm, 90, rfl⟩
abbrev main_v63 : Ref sig .tc := ⟨.hbm, 91, rfl⟩
abbrev main_v64 : Ref sig .tc := ⟨.hbm, 92, rfl⟩
abbrev main_cst_5 : Ref sig .tc := ⟨.hbm, 93, rfl⟩
abbrev main_v65 : Ref sig .tc := ⟨.hbm, 94, rfl⟩
abbrev main_v66 : Ref sig .tc := ⟨.hbm, 95, rfl⟩
abbrev main_cst_6 : Ref sig .tc := ⟨.hbm, 96, rfl⟩
abbrev main_v67 : Ref sig .tc := ⟨.hbm, 97, rfl⟩
abbrev main_v68 : Ref sig .tc := ⟨.hbm, 98, rfl⟩
abbrev main_cst_7 : Ref sig .tc := ⟨.hbm, 99, rfl⟩
abbrev main_v69 : Ref sig .tc := ⟨.hbm, 100, rfl⟩
abbrev main_v70 : Ref sig .tc := ⟨.hbm, 101, rfl⟩
abbrev main_cst_8 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_cst_10 : Ref sig .tc := ⟨.hbm, 109, rfl⟩
abbrev main_v76 : Ref sig .tc := ⟨.hbm, 110, rfl⟩
abbrev main_v77 : Ref sig .tc := ⟨.hbm, 111, rfl⟩
abbrev main_cst_11 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_12 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_14 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S3x40x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x40x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x40x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x40x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S143x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "fifth" => some ((1 / 5 : ℝ) : EReal)
  | _ => none
-- ==== ReferenceIdeal.lean ====
abbrev S4096x200x3 : Shape := ⟨3, ![4096, 200, 3]⟩
abbrev S4096x200x2 : Shape := ⟨3, ![4096, 200, 2]⟩
abbrev S4096x200x5 : Shape := ⟨3, ![4096, 200, 5]⟩
abbrev S4096 : Shape := ⟨1, ![4096]⟩
abbrev S4096x200x1 : Shape := ⟨3, ![4096, 200, 1]⟩
abbrev S32x3 : Shape := ⟨2, ![32, 3]⟩
abbrev S32 : Shape := ⟨1, ![32]⟩
abbrev S32x32 : Shape := ⟨2, ![32, 32]⟩
abbrev S32x2 : Shape := ⟨2, ![32, 2]⟩
abbrev S2x32 : Shape := ⟨2, ![2, 32]⟩
abbrev S11x32 : Shape := ⟨2, ![11, 32]⟩
abbrev S34x32 : Shape := ⟨2, ![34, 32]⟩
abbrev S19x32 : Shape := ⟨2, ![19, 32]⟩
abbrev S31x32 : Shape := ⟨2, ![31, 32]⟩
abbrev S3x32 : Shape := ⟨2, ![3, 32]⟩
abbrev S4096x200x32 : Shape := ⟨3, ![4096, 200, 32]⟩
abbrev S1x1x32 : Shape := ⟨3, ![1, 1, 32]⟩
abbrev S_ : Shape := ⟨0, ![]⟩
abbrev S4096x200 : Shape := ⟨2, ![4096, 200]⟩
abbrev S1x4096x200x32 : Shape := ⟨4, ![1, 4096, 200, 32]⟩
abbrev S5x4096x200x32 : Shape := ⟨4, ![5, 4096, 200, 32]⟩
abbrev S2x4096x200x32 : Shape := ⟨4, ![2, 4096, 200, 32]⟩
abbrev S4096x200x128 : Shape := ⟨3, ![4096, 200, 128]⟩

abbrev nBuf : Space → Nat
  | .hbm => 154
  | .vmem => 0
  | .smem => 0
  | _ => 0

abbrev hbmTy0_0 (i : Nat) : BufTy := match i % 128 with
  | 0 => ⟨S4096x200x3, .f32⟩
  | 1 => ⟨S4096x200x2, .f32⟩
  | 2 => ⟨S4096x200x5, .i32⟩
  | 3 => ⟨S4096x200x2, .i32⟩
  | 4 => ⟨S4096, .i32⟩
  | 5 => ⟨S4096x200x1, .f32⟩
  | 6 => ⟨S32x3, .f32⟩
  | 7 => ⟨S32, .f32⟩
  | 8 => ⟨S32x32, .f32⟩
  | 9 => ⟨S32, .f32⟩
  | 10 => ⟨S32x2, .f32⟩
  | 11 => ⟨S32, .f32⟩
  | 12 => ⟨S32x32, .f32⟩
  | 13 => ⟨S32, .f32⟩
  | 14 => ⟨S2x32, .f32⟩
  | 15 => ⟨S2x32, .f32⟩
  | 16 => ⟨S2x32, .f32⟩
  | 17 => ⟨S11x32, .f32⟩
  | 18 => ⟨S34x32, .f32⟩
  | 19 => ⟨S19x32, .f32⟩
  | 20 => ⟨S31x32, .f32⟩
  | 21 => ⟨S3x32, .f32⟩
  | 22 => ⟨S4096x200x32, .f32⟩
  | 23 => ⟨S1x1x32, .f32⟩
  | 24 => ⟨S4096x200x32, .f32⟩
  | 25 => ⟨S4096x200x32, .f32⟩
  | 26 => ⟨S_, .f32⟩
  | 27 => ⟨S4096x200x32, .f32⟩
  | 28 => ⟨S4096x200x32, .i1⟩
  | 29 => ⟨S4096x200x32, .f32⟩
  | 30 => ⟨S_, .f32⟩
  | 31 => ⟨S4096x200x32, .f32⟩
  | 32 => ⟨S4096x200x32, .f32⟩
  | 33 => ⟨S4096x200x32, .f32⟩
  | 34 => ⟨S32x32, .f32⟩
  | 35 => ⟨S4096x200x32, .f32⟩
  | 36 => ⟨S1x1x32, .f32⟩
  | 37 => ⟨S4096x200x32, .f32⟩
  | 38 => ⟨S4096x200x32, .f32⟩
  | 39 => ⟨S2x32, .f32⟩
  | 40 => ⟨S4096x200x32, .f32⟩
  | 41 => ⟨S1x1x32, .f32⟩
  | 42 => ⟨S4096x200x32, .f32⟩
  | 43 => ⟨S4096x200x32, .f32⟩
  | 44 => ⟨S_, .f32⟩
  | 45 => ⟨S4096x200x32, .f32⟩
  | 46 => ⟨S4096x200x32, .i1⟩
  | 47 => ⟨S4096x200x32, .f32⟩
  | 48 => ⟨S_, .f32⟩
  | 49 => ⟨S4096x200x32, .f32⟩
  | 50 => ⟨S4096x200x32, .f32⟩
  | 51 => ⟨S4096x200x32, .f32⟩
  | 52 => ⟨S32x32, .f32⟩
  | 53 => ⟨S4096x200x32, .f32⟩
  | 54 => ⟨S1x1x32, .f32⟩
  | 55 => ⟨S4096x200x32, .f32⟩
  | 56 => ⟨S4096x200x32, .f32⟩
  | 57 => ⟨S4096x200x1, .i32⟩
  | 58 => ⟨S4096x200, .i32⟩
  | 59 => ⟨S_, .i32⟩
  | 60 => ⟨S4096x200, .i32⟩
  | 61 => ⟨S4096x200, .i1⟩
  | 62 => ⟨S_, .i32⟩
  | 63 => ⟨S4096x200, .i32⟩
  | 64 => ⟨S4096x200, .i32⟩
  | 65 => ⟨S4096x200, .i32⟩
  | 66 => ⟨S4096x200x1, .i32⟩
  | 67 => ⟨S4096x200x32, .f32⟩
  | 68 => ⟨S4096x200x1, .i32⟩
  | 69 => ⟨S4096x200, .i32⟩
  | 70 => ⟨S_, .i32⟩
  | 71 => ⟨S4096x200, .i32⟩
  | 72 => ⟨S4096x200, .i1⟩
  | 73 => ⟨S_, .i32⟩
  | 74 => ⟨S4096x200, .i32⟩
  | 75 => ⟨S4096x200, .i32⟩
  | 76 => ⟨S4096x200, .i32⟩
  | 77 => ⟨S4096x200x1, .i32⟩
  | 78 => ⟨S4096x200x32, .f32⟩
  | 79 => ⟨S4096x200x1, .i32⟩
  | 80 => ⟨S4096x200, .i32⟩
  | 81 => ⟨S_, .i32⟩
  | 82 => ⟨S4096x200, .i32⟩
  | 83 => ⟨S4096x200, .i1⟩
  | 84 => ⟨S_, .i32⟩
  | 85 => ⟨S4096x200, .i32⟩
  | 86 => ⟨S4096x200, .i32⟩
  | 87 => ⟨S4096x200, .i32⟩
  | 88 => ⟨S4096x200x1, .i32⟩
  | 89 => ⟨S4096x200x32, .f32⟩
  | 90 => ⟨S4096x200x1, .i32⟩
  | 91 => ⟨S4096x200, .i32⟩
  | 92 => ⟨S_, .i32⟩
  | 93 => ⟨S4096x200, .i32⟩
  | 94 => ⟨S4096x200, .i1⟩
  | 95 => ⟨S_, .i32⟩
  | 96 => ⟨S4096x200, .i32⟩
  | 97 => ⟨S4096x200, .i32⟩
  | 98 => ⟨S4096x200, .i32⟩
  | 99 => ⟨S4096x200x1, .i32⟩
  | 100 => ⟨S4096x200x32, .f32⟩
  | 101 => ⟨S4096x200x1, .i32⟩
  | 102 => ⟨S4096x200, .i32⟩
  | 103 => ⟨S_, .i32⟩
  | 104 => ⟨S4096x200, .i32⟩
  | 105 => ⟨S4096x200, .i1⟩
  | 106 => ⟨S_, .i32⟩
  | 107 => ⟨S4096x200, .i32⟩
  | 108 => ⟨S4096x200, .i32⟩
  | 109 => ⟨S4096x200, .i32⟩
  | 110 => ⟨S4096x200x1, .i32⟩
  | 111 => ⟨S4096x200x32, .f32⟩
  | 112 => ⟨S4096x200x1, .i32⟩
  | 113 => ⟨S4096x200, .i32⟩
  | 114 => ⟨S_, .i32⟩
  | 115 => ⟨S4096x200, .i32⟩
  | 116 => ⟨S4096x200, .i1⟩
  | 117 => ⟨S_, .i32⟩
  | 118 => ⟨S4096x200, .i32⟩
  | 119 => ⟨S4096x200, .i32⟩
  | 120 => ⟨S4096x200, .i32⟩
  | 121 => ⟨S4096x200x1, .i32⟩
  | 122 => ⟨S4096x200x32, .f32⟩
  | 123 => ⟨S4096x200x1, .i32⟩
  | 124 => ⟨S4096x200, .i32⟩
  | 125 => ⟨S_, .i32⟩
  | 126 => ⟨S4096x200, .i32⟩
  | 127 => ⟨S4096x200, .i1⟩
  | _ => ⟨S4096x200x3, .f32⟩

abbrev hbmTy0_1 (i : Nat) : BufTy := match i % 128 with
  | 0 => ⟨S_, .i32⟩
  | 1 => ⟨S4096x200, .i32⟩
  | 2 => ⟨S4096x200, .i32⟩
  | 3 => ⟨S4096x200, .i32⟩
  | 4 => ⟨S4096x200x1, .i32⟩
  | 5 => ⟨S4096x200x32, .f32⟩
  | 6 => ⟨S1x4096x200x32, .f32⟩
  | 7 => ⟨S1x4096x200x32, .f32⟩
  | 8 => ⟨S1x4096x200x32, .f32⟩
  | 9 => ⟨S1x4096x200x32, .f32⟩
  | 10 => ⟨S1x4096x200x32, .f32⟩
  | 11 => ⟨S5x4096x200x32, .f32⟩
  | 12 => ⟨S_, .f32⟩
  | 13 => ⟨S4096x200x32, .f32⟩
  | 14 => ⟨S_, .f32⟩
  | 15 => ⟨S4096x200x32, .f32⟩
  | 16 => ⟨S4096x200x32, .f32⟩
  | 17 => ⟨S1x4096x200x32, .f32⟩
  | 18 => ⟨S1x4096x200x32, .f32⟩
  | 19 => ⟨S2x4096x200x32, .f32⟩
  | 20 => ⟨S_, .f32⟩
  | 21 => ⟨S4096x200x32, .f32⟩
  | 22 => ⟨S_, .f32⟩
  | 23 => ⟨S4096x200x32, .f32⟩
  | 24 => ⟨S4096x200x32, .f32⟩
  | 25 => ⟨S4096x200x128, .f32⟩
  | _ => ⟨S4096x200x3, .f32⟩

abbrev hbmTy (i : Nat) : BufTy := match i / 128 with
  | 0 => hbmTy0_0 i
  | 1 => hbmTy0_1 i
  | _ => ⟨S4096x200x3, .f32⟩

abbrev bufTy : (tb : Table) → Fin (tcTables nBuf tb) → BufTy
  | .hbm, ⟨i, _⟩ => hbmTy i
  | _, _ => ⟨S4096x200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c : Ref sig .tc := ⟨.hbm, 59, rfl⟩
abbrev main_v34 : Ref sig .tc := ⟨.hbm, 60, rfl⟩
abbrev main_v35 : Ref sig .tc := ⟨.hbm, 61, rfl⟩
abbrev main_c_3 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_4 : Ref sig .tc := ⟨.hbm, 70, rfl⟩
abbrev main_v43 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_6 : Ref sig .tc := ⟨.hbm, 81, rfl⟩
abbrev main_v52 : Ref sig .tc := ⟨.hbm, 82, rfl⟩
abbrev main_v53 : Ref sig .tc := ⟨.hbm, 83, rfl⟩
abbrev main_c_7 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_8 : Ref sig .tc := ⟨.hbm, 92, rfl⟩
abbrev main_v61 : Ref sig .tc := ⟨.hbm, 93, rfl⟩
abbrev main_v62 : Ref sig .tc := ⟨.hbm, 94, rfl⟩
abbrev main_c_9 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_10 : Ref sig .tc := ⟨.hbm, 103, rfl⟩
abbrev main_v70 : Ref sig .tc := ⟨.hbm, 104, rfl⟩
abbrev main_v71 : Ref sig .tc := ⟨.hbm, 105, rfl⟩
abbrev main_c_11 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_12 : Ref sig .tc := ⟨.hbm, 114, rfl⟩
abbrev main_v79 : Ref sig .tc := ⟨.hbm, 115, rfl⟩
abbrev main_v80 : Ref sig .tc := ⟨.hbm, 116, rfl⟩
abbrev main_c_13 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_14 : Ref sig .tc := ⟨.hbm, 125, rfl⟩
abbrev main_v88 : Ref sig .tc := ⟨.hbm, 126, rfl⟩
abbrev main_v89 : Ref sig .tc := ⟨.hbm, 127, rfl⟩
abbrev main_c_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_16 : Ref sig .tc := ⟨.hbm, 140, rfl⟩
abbrev main_v101 : Ref sig .tc := ⟨.hbm, 141, rfl⟩
abbrev main_cst_17 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_18 : Ref sig .tc := ⟨.hbm, 148, rfl⟩
abbrev main_v107 : Ref sig .tc := ⟨.hbm, 149, rfl⟩
abbrev main_cst_19 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]
-- ==== Proof.Block.lean ====
/-
  One block of the kernel at an entry: what the body computes, as sums over the input channels and the hidden columns.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Block

open Cert.KernelIdeal Cert.KernelIdeal.Gen Idealize.ShloMosaic Idealize.ShloMosaic.TcCoe Idealize.SL.Sem

/-- A code, as a number. -/
def num (w : BitVec 32) : EReal := ((w.toInt : ℝ) : EReal)

/-- The scale of a column: a fifth, a half, one. -/
def scale (j : Fin 128) : EReal :=
  if j.val < 32 then ((1 / 5 : ℝ) : EReal) else if j.val < 64 then ((1 / 2 : ℝ) : EReal) else 1

variable (p : S143x128.Idx → EReal) (x0 : S3x40x256.Idx → EReal) (x1 : S2x40x256.Idx → EReal)
  (x2 : S5x40x256.Idx → BitVec 32) (x3 : S2x40x256.Idx → BitVec 32)

/-- The twelve input channels of lane `l`, position `s`: three and two continuous ones, five and two codes. -/
def channel (s : Fin 40) (l : Fin 256) (q : Fin 12) : EReal :=
  if h : q.val < 3 then x0 (ix3 ⟨q, h⟩ s l)
  else if h : q.val - 3 < 2 then x1 (ix3 ⟨q - 3, h⟩ s l)
  else if h : q.val - 3 - 2 < 5 then num (x2 (ix3 ⟨q - 3 - 2, h⟩ s l))
  else num (x3 (ix3 ⟨q - 3 - 2 - 5, by omega⟩ s l))

/-- The hidden value of column `k`. -/
def hidden (s : Fin 40) (l : Fin 256) (k : Fin 128) : EReal :=
  ∑ q : Fin 12, channel x0 x1 x2 x3 s l q * p (ix2 ⟨q, by omega⟩ k) + p (ix2 140 k)

/-- The hidden value after the activation, which leaves positive values and marked columns as they are. -/
def active (s : Fin 40) (l : Fin 256) (k : Fin 128) : EReal :=
  if 0 < hidden p x0 x1 x2 x3 s l k ∨ ((1 / 2 : ℝ) : EReal) < p (ix2 142 k) then hidden p x0 x1 x2 x3 s l k
  else Ideal.exp (hidden p x0 x1 x2 x3 s l k) - 1

/-- The word of one half. -/
theorem half_word : @Eq EReal (Ideal.ofBits FTy.f32 1056964608#32) ((1 / 2 : ℝ) : EReal) := by
  simp [Ideal.ofBits, Ideal.ieee, -EReal.coe_mul]; norm_num

theorem scale_at (j : Fin 128) : @Eq EReal (k0_pay3 (F := Ideal) (ix2 0 j)) (scale j) := by
  unfold k0_pay3 scale
  pointwise
  rw [half_word]
  by_cases h : j.val < 32
  · rw [dif_pos h, if_pos h]
    rfl
  · rw [dif_neg h, if_neg h]
    by_cases h' : j.val < 64
    · rw [dif_pos (by omega), if_pos h']
    · rw [dif_neg (by omega), if_neg h']

theorem m23_at (r j : Fin 128) : @Eq EReal (k0_pay4 (F := Ideal) p (ix2 r j)) (p (ix2 ⟨12 + r, by omega⟩ j) * scale j) := by
  unfold k0_pay4 k0_pay2
  pointwise
  rw [scale_at]

theorem bias2_at (j : Fin 128) : @Eq EReal (k0_pay5 (F := Ideal) p (ix2 0 j)) (p (ix2 141 j) * scale j) := by
  unfold k0_pay5 k0_pay2
  pointwise
  rw [scale_at]

theorem hidden_row (n : Fin 10240) (k : Fin 128) :
    @Eq EReal (k0_pay6 (F := Ideal) p x0 x1 x2 x3 (ix2 n k))
      (hidden p x0 x1 x2 x3 ⟨n.val % 40, by omega⟩ ⟨n.val / 40, by omega⟩ k) := by
  unfold k0_pay6 k0_pay2
  pointwise
  rfl

theorem hidden_at (s : Fin 40) (l : Fin 256) (n : Fin 10240) (hn : n.val = l.val * 40 + s.val) (k : Fin 128) :
    @Eq EReal (k0_pay6 (F := Ideal) p x0 x1 x2 x3 (ix2 n k)) (hidden p x0 x1 x2 x3 s l k) := by
  have hs : (⟨n.val % 40, by omega⟩ : Fin 40) = s := Fin.ext (by show n.val % 40 = s.val; omega)
  have hl : (⟨n.val / 40, by omega⟩ : Fin 256) = l := Fin.ext (by show n.val / 40 = l.val; omega)
  rw [hidden_row, hs, hl]

theorem mask_at (s : Fin 40) (l : Fin 256) (n : Fin 10240) (hn : n.val = l.val * 40 + s.val) (k : Fin 128) :
    k0_pay7 (F := Ideal) p x0 x1 x2 x3 (ix2 n k) =
      BitVec.ofBool (decide (0 < hidden p x0 x1 x2 x3 s l k ∨ ((1 / 2 : ℝ) : EReal) < p (ix2 142 k))) := by
  unfold k0_pay7 k0_pay2
  pointwise
  rw [half_word, hidden_at p x0 x1 x2 x3 s l n hn]
  by_cases h : 0 < hidden p x0 x1 x2 x3 s l k <;> by_cases h' : ((1 / 2 : ℝ) : EReal) < p (ix2 142 k) <;>
    simp only [h, h'] <;> rfl

theorem active_at (s : Fin 40) (l : Fin 256) (n : Fin 10240) (hn : n.val = l.val * 40 + s.val) (k : Fin 128) :
    @Eq EReal (Scalar.select (k0_pay7 (F := Ideal) p x0 x1 x2 x3 (ix2 n k)) (k0_pay6 (F := Ideal) p x0 x1 x2 x3 (ix2 n k))
      (k0_pay8 (F := Ideal) p x0 x1 x2 x3 (ix2 n k) - 1)) (active p x0 x1 x2 x3 s l k) := by
  unfold k0_pay8
  pointwise
  rw [mask_at p x0 x1 x2 x3 s l n hn, hidden_at p x0 x1 x2 x3 s l n hn]
  unfold active
  by_cases h : 0 < hidden p x0 x1 x2 x3 s l k ∨ ((1 / 2 : ℝ) : EReal) < p (ix2 142 k)
  · rw [decide_eq_true h, if_pos h]
    rfl
  · rw [decide_eq_false h, if_neg h]
    rfl

theorem zero2 : (![0, 0] : Fin 2 → Nat) = fun _ => 0 := funext fun a => by fin_cases a <;> rfl

theorem zero3 : (![0, 0, 0] : Fin 3 → Nat) = fun _ => 0 := funext fun a => by fin_cases a <;> rfl

theorem out_at (l : Fin 256) (s : Fin 40) (j : Fin 128) :
    @Eq EReal (out0_5 (F := Ideal) x0 x1 x2 x3 p (ix3 l s j))
      (∑ k : Fin 128, active p x0 x1 x2 x3 s l k * (p (ix2 ⟨12 + k, by omega⟩ j) * scale j) + p (ix2 141 j) * scale j) := by
  unfold out0_5
  rw [View.canon_unit_zero zero3, View.ld_unit_zero zero2, View.ld_unit_zero zero3, View.ld_unit_zero zero3, View.ld_unit_zero zero3, View.ld_unit_zero zero3]
  unfold k0_pay1
  pointwise
  refine congrArg₂ (fun a b : EReal => a + b) (Finset.sum_congr rfl fun k _ => ?_) (bias2_at p j)
  exact congrArg₂ (fun a b : EReal => a * b) (active_at p x0 x1 x2 x3 s l _ rfl k) (m23_at p k j)

end Cert.KernelIdeal.Block

end
-- ==== Proof.HostStages.lean ====
/-
  The kernel's host code packs every parameter into one 143 by 128 array. This module states, for the arrays that the
  host joins from three pieces or more, which pieces they are joined from, and reads each remaining array at an entry.
-/
module

public import proofs.«01_k».proof.Proof.Gen.KernelIdeal.Value
public import Idealize.ShloMosaic.Lib.StableHlo.ReadAt
public import Idealize.ShloMosaic.Lib.Pointwise

@[expose] public section

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The joined arrays -/

/-- The first rows of the seven tables, one under the other. -/
theorem firsts_eq : V m c main_v21 = concatenate S7x32 0
    [⟨S1x32, (V m c main_v14 : S1x32.Idx → EReal)⟩, ⟨S1x32, (V m c main_v15 : S1x32.Idx → EReal)⟩,
      ⟨S1x32, (V m c main_v16 : S1x32.Idx → EReal)⟩, ⟨S1x32, (V m c main_v17 : S1x32.Idx → EReal)⟩,
      ⟨S1x32, (V m c main_v18 : S1x32.Idx → EReal)⟩, ⟨S1x32, (V m c main_v19 : S1x32.Idx → EReal)⟩,
      ⟨S1x32, (V m c main_v20 : S1x32.Idx → EReal)⟩]
    concatenates_S1x32_S1x32_S1x32_S1x32_S1x32_S1x32_S1x32_S7x32_d0 := by
  unfold V
  after_reads_simp
  rfl

/-- The second rows of the seven tables, one under the other. -/
theorem seconds_eq : V m c main_v43 = concatenate S7x32 0
    [⟨S1x32, (V m c main_v36 : S1x32.Idx → EReal)⟩, ⟨S1x32, (V m c main_v37 : S1x32.Idx → EReal)⟩,
      ⟨S1x32, (V m c main_v38 : S1x32.Idx → EReal)⟩, ⟨S1x32, (V m c main_v39 : S1x32.Idx → EReal)⟩,
      ⟨S1x32, (V m c main_v40 : S1x32.Idx → EReal)⟩, ⟨S1x32, (V m c main_v41 : S1x32.Idx → EReal)⟩,
      ⟨S1x32, (V m c main_v42 : S1x32.Idx → EReal)⟩]
    concatenates_S1x32_S1x32_S1x32_S1x32_S1x32_S1x32_S1x32_S7x32_d0 := by
  unfold V
  after_reads_simp
  rfl

/-- Second rows minus first rows. -/
theorem delta_eq : V m c main_v44 =
    subf (F := Ideal) (s := S7x32) (φ := .f32) (V m c main_v43) (V m c main_v21) := by
  unfold V
  after_reads_simp

/-- The sum of the first rows of the five tables of the one group. -/
theorem sumP_eq : V m c main_v46 = Host.reduceAdd (F := Ideal)
    (extractStridedSlice S5x32 ![0, 0] (V m c main_v21 : S7x32.Idx → EReal) slices_S7x32_S5x32_0_0)
    (constant S_ .f32 0x00000000#32) reducesTo_S5x32_S32_d0 h_S_ := by
  unfold V
  after_reads_simp

/-- The sum of the first rows of the two tables of the other group. -/
theorem sumC_eq : V m c main_v48 = Host.reduceAdd (F := Ideal)
    (extractStridedSlice S2x32 ![5, 0] (V m c main_v21 : S7x32.Idx → EReal) slices_S7x32_S2x32_5_0)
    (constant S_ .f32 0x00000000#32) reducesTo_S2x32_S32_d0 h_S_ := by
  unfold V
  after_reads_simp

/-- The left half of the first matrix. -/
theorem m1Left_eq : V m c main_v56 = concatenate S12x64 0
    [⟨S3x64, (V m c main_v51 : S3x64.Idx → EReal)⟩, ⟨S2x64, (V m c main_v54 : S2x64.Idx → EReal)⟩,
      ⟨S7x64, (V m c main_v55 : S7x64.Idx → EReal)⟩] concatenates_S3x64_S2x64_S7x64_S12x64_d0 := by
  unfold V
  after_reads_simp
  rfl

/-- The first matrix. -/
theorem m1_eq : V m c main_v64 = concatenate S12x128 1
    [⟨S12x64, (V m c main_v56 : S12x64.Idx → EReal)⟩, ⟨S12x12, (V m c main_v62 : S12x12.Idx → EReal)⟩,
      ⟨S12x52, (V m c main_v63 : S12x52.Idx → EReal)⟩] concatenates_S12x64_S12x12_S12x52_S12x128_d1 := by
  unfold V
  after_reads_simp
  rfl

/-- The rows of the second matrix that carry the differences of the first group of tables. -/
theorem m2P_eq : V m c main_v68 = concatenate S5x128 1
    [⟨S5x32, extractStridedSlice S5x32 ![0, 0] (V m c main_v44 : S7x32.Idx → EReal) slices_S7x32_S5x32_0_0⟩,
      ⟨S5x96, (V m c main_v67 : S5x96.Idx → EReal)⟩] concatenates_S5x32_S5x96_S5x128_d1 := by
  unfold V
  after_reads_simp
  rfl

/-- The rows of the second matrix that carry the differences of the second group of tables. -/
theorem m2C_eq : V m c main_v72 = concatenate S2x128 1
    [⟨S2x32, (V m c main_v69 : S2x32.Idx → EReal)⟩,
      ⟨S2x32, extractStridedSlice S2x32 ![5, 0] (V m c main_v44 : S7x32.Idx → EReal) slices_S7x32_S2x32_5_0⟩,
      ⟨S2x64, (V m c main_v71 : S2x64.Idx → EReal)⟩] concatenates_S2x32_S2x32_S2x64_S2x128_d1 := by
  unfold V
  after_reads_simp
  rfl

/-- The rows of the second matrix that meet the passed-through inputs. -/
theorem m2_eq : V m c main_v73 = concatenate S12x128 0
    [⟨S5x128, (V m c main_v65 : S5x128.Idx → EReal)⟩, ⟨S5x128, (V m c main_v68 : S5x128.Idx → EReal)⟩,
      ⟨S2x128, (V m c main_v72 : S2x128.Idx → EReal)⟩] concatenates_S5x128_S5x128_S2x128_S12x128_d0 := by
  unfold V
  after_reads_simp
  rfl

/-- The rows of the second matrix that carry the first second-layer weights. -/
theorem m3P_eq : V m c main_v77 = concatenate S32x128 1
    [⟨S32x64, (V m c main_v74 : S32x64.Idx → EReal)⟩, ⟨S32x32, (V m c main_v75 : S32x32.Idx → EReal)⟩,
      ⟨S32x32, (V m c main_v76 : S32x32.Idx → EReal)⟩] concatenates_S32x64_S32x32_S32x32_S32x128_d1 := by
  unfold V
  after_reads_simp
  rfl

/-- The rows of the second matrix that meet the hidden units. -/
theorem m3_eq : V m c main_v81 = concatenate S64x128 0
    [⟨S32x128, (V m c main_v77 : S32x128.Idx → EReal)⟩, ⟨S32x128, (V m c main_v80 : S32x128.Idx → EReal)⟩]
    concatenates_S32x128_S32x128_S64x128_d0 := by
  unfold V
  after_reads_simp
  rfl

/-- The second matrix. -/
theorem m23_eq : V m c main_v83 = concatenate S128x128 0
    [⟨S64x128, (V m c main_v81 : S64x128.Idx → EReal)⟩, ⟨S12x128, (V m c main_v73 : S12x128.Idx → EReal)⟩,
      ⟨S52x128, (V m c main_v82 : S52x128.Idx → EReal)⟩] concatenates_S64x128_S12x128_S52x128_S128x128_d0 := by
  unfold V
  after_reads_simp
  rfl

/-- The second bias, as a vector. -/
theorem bias2_eq : V m c main_v86 = concatenate S128 0
    [⟨S32, (V m c main_v46 : S32.Idx → EReal)⟩, ⟨S32, (V m c main_v48 : S32.Idx → EReal)⟩,
      ⟨S32, (m ((c : Thread nD τ).loc main_arg9) : S32.Idx → EReal)⟩,
      ⟨S32, (m ((c : Thread nD τ).loc main_arg13) : S32.Idx → EReal)⟩] concatenates_S32_S32_S32_S32_S128_d0 := by
  unfold V
  after_reads_simp
  rfl

/-- The second bias, as a row. -/
theorem bias2Row_eq : V m c main_v87 = shapeCast S1x128 (V m c main_v86 : S128.Idx → EReal) shapeCasts_S128_S1x128 := by
  unfold V
  after_reads_simp
  rfl

/-- The packed parameters. -/
theorem params_eq : V m c main_v95 = concatenate S143x128 0
    [⟨S12x128, (V m c main_v64 : S12x128.Idx → EReal)⟩, ⟨S128x128, (V m c main_v83 : S128x128.Idx → EReal)⟩,
      ⟨S1x128, (V m c main_v94 : S1x128.Idx → EReal)⟩, ⟨S1x128, (V m c main_v87 : S1x128.Idx → EReal)⟩,
      ⟨S1x128, (V m c main_v92 : S1x128.Idx → EReal)⟩]
    concatenates_S12x128_S128x128_S1x128_S1x128_S1x128_S143x128_d0 := by
  unfold V
  after_reads_simp
  rfl

/-! ## The arguments the host packs, by what they are -/

/-- First-layer weights of the one continuous input. -/
abbrev w1P : S32x3.Idx → EReal := m ((c : Thread nD τ).loc main_arg6)
/-- First-layer bias of the one continuous input. -/
abbrev b1P : S32.Idx → EReal := m ((c : Thread nD τ).loc main_arg7)
/-- Second-layer weights of the one continuous input. -/
abbrev w2P : S32x32.Idx → EReal := m ((c : Thread nD τ).loc main_arg8)
/-- Second-layer bias of the one continuous input. -/
abbrev b2P : S32.Idx → EReal := m ((c : Thread nD τ).loc main_arg9)
/-- First-layer weights of the other continuous input. -/
abbrev w1C : S32x2.Idx → EReal := m ((c : Thread nD τ).loc main_arg10)
/-- First-layer bias of the other continuous input. -/
abbrev b1C : S32.Idx → EReal := m ((c : Thread nD τ).loc main_arg11)
/-- Second-layer weights of the other continuous input. -/
abbrev w2C : S32x32.Idx → EReal := m ((c : Thread nD τ).loc main_arg12)
/-- Second-layer bias of the other continuous input. -/
abbrev b2C : S32.Idx → EReal := m ((c : Thread nD τ).loc main_arg13)
/-- The seven tables. -/
abbrev tab0 : S2x32.Idx → EReal := m ((c : Thread nD τ).loc main_arg14)
@[inherit_doc tab0] abbrev tab1 : S2x32.Idx → EReal := m ((c : Thread nD τ).loc main_arg15)
@[inherit_doc tab0] abbrev tab2 : S2x32.Idx → EReal := m ((c : Thread nD τ).loc main_arg16)
@[inherit_doc tab0] abbrev tab3 : S11x32.Idx → EReal := m ((c : Thread nD τ).loc main_arg17)
@[inherit_doc tab0] abbrev tab4 : S34x32.Idx → EReal := m ((c : Thread nD τ).loc main_arg18)
@[inherit_doc tab0] abbrev tab5 : S19x32.Idx → EReal := m ((c : Thread nD τ).loc main_arg19)
@[inherit_doc tab0] abbrev tab6 : S31x32.Idx → EReal := m ((c : Thread nD τ).loc main_arg20)
/-- The packed parameters. -/
abbrev par : S143x128.Idx → EReal := V m c main_v95

end Cert.KernelIdeal.Host

end
-- ==== Proof.HostFirst.lean ====
/-
  The packed parameters at an entry: the first matrix, the first bias and the row that marks the columns whose values
  pass through unchanged.
-/
module

public import proofs.«01_k».proof.Proof.HostStages

@[expose] public section

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arrays that are joined, at an entry -/

/-- The weights of the one continuous input, beside 32 columns of zeros. -/
theorem v51_at (r : Fin 3) (j : Fin 64) : @Eq EReal (V m c main_v51 (ix2 r j))
    (if h : j.val < 32 then w1P m c (ix2 ⟨j, h⟩ r) else 0) := by
  unfold V
  after_reads_at

/-- The weights of the other continuous input, behind 32 columns of zeros. -/
theorem v54_at (r : Fin 2) (j : Fin 64) : @Eq EReal (V m c main_v54 (ix2 r j))
    (if h : j.val < 32 then 0 else w1C m c (ix2 ⟨j - 32, by omega⟩ r)) := by
  unfold V
  after_reads_at

/-- Zeros below the weights. -/
theorem v55_at (r : Fin 7) (j : Fin 64) : @Eq EReal (V m c main_v55 (ix2 r j)) 0 := by
  unfold V
  after_reads_at

/-- The truth value of an equation, as a number. -/
theorem number_of_eq (r q : Fin 12) :
    @Eq EReal (FloatOps.uitofp (F := Ideal) FTy.f32
      (IntOp.cmpi CmpIPredicate.eq (IntOp.addi (BitVec.ofNat 32 ↑r) 0#32) (BitVec.ofNat 32 ↑q)))
    (if r = q then 1 else 0) := by
  have h : IntOp.cmpi CmpIPredicate.eq (IntOp.addi (BitVec.ofNat 32 ↑r) 0#32) (BitVec.ofNat 32 ↑q) =
      if r = q then 1#1 else 0#1 := by
    revert r q
    decide
  rw [h]
  show (((if r = q then 1#1 else 0#1 : BitVec 1).toNat : ℝ) : EReal) = _
  split <;> simp

/-- The 12 by 12 identity. -/
theorem v62_at (r q : Fin 12) : @Eq EReal (V m c main_v62 (ix2 r q)) (if r = q then 1 else 0) := by
  unfold V
  after_reads_at
  exact number_of_eq r q

/-- Zeros beside the identity. -/
theorem v63_at (r : Fin 12) (j : Fin 52) : @Eq EReal (V m c main_v63 (ix2 r j)) 0 := by
  unfold V
  after_reads_at

/-- The first bias: the two first-layer biases, then zeros. -/
theorem v94_at (j : Fin 128) : @Eq EReal (V m c main_v94 (ix2 0 j))
    (if h : j.val < 64 then if h' : j.val < 32 then b1P m c (ix1 ⟨j, h'⟩) else b1C m c (ix1 ⟨j - 32, by omega⟩) else 0) := by
  unfold V
  after_reads_at
  after_reads_simp

/-- The truth value of a comparison with 64, as a number. -/
theorem number_of_ge (j : Fin 128) :
    @Eq EReal (FloatOps.uitofp (F := Ideal) FTy.f32 (IntOp.cmpi CmpIPredicate.sge (BitVec.ofNat 32 ↑j) 64#32))
    (if j.val < 64 then 0 else 1) := by
  have h : IntOp.cmpi CmpIPredicate.sge (BitVec.ofNat 32 ↑j) 64#32 = if j.val < 64 then 0#1 else 1#1 := by
    revert j
    decide
  rw [h]
  show (((if j.val < 64 then 0#1 else 1#1 : BitVec 1).toNat : ℝ) : EReal) = _
  split <;> simp

/-- The mark of the columns that pass through: one from column 64 on. -/
theorem v92_at (j : Fin 128) : @Eq EReal (V m c main_v92 (ix2 0 j)) (if j.val < 64 then 0 else 1) := by
  unfold V
  after_reads_at
  exact number_of_ge j

/-! ## The first matrix in the packed parameters, by groups of columns -/

/-- The packed parameters' first twelve rows are the first matrix. -/
theorem par_first (r : Fin 12) (k : Fin 128) :
    par m c (ix2 ⟨r, by omega⟩ k) = V m c main_v64 (ix2 r k) := by
  unfold par
  rw [params_eq]
  pointwise

/-- Rows 0 to 2 of the first 64 columns. -/
theorem par_first_top (r : Fin 3) (k : Fin 64) :
    par m c (ix2 ⟨r, by omega⟩ ⟨k, by omega⟩) = V m c main_v51 (ix2 r k) := by
  rw [par_first m c ⟨r, by omega⟩ ⟨k, by omega⟩, m1_eq]
  pointwise
  rw [m1Left_eq]
  pointwise

/-- Rows 3 and 4 of the first 64 columns. -/
theorem par_first_mid (r : Fin 2) (k : Fin 64) :
    par m c (ix2 ⟨3 + r, by omega⟩ ⟨k, by omega⟩) = V m c main_v54 (ix2 r k) := by
  rw [par_first m c ⟨3 + r, by omega⟩ ⟨k, by omega⟩, m1_eq]
  pointwise
  rw [m1Left_eq]
  pointwise

/-- Rows 5 to 11 of the first 64 columns. -/
theorem par_first_low (r : Fin 7) (k : Fin 64) :
    par m c (ix2 ⟨5 + r, by omega⟩ ⟨k, by omega⟩) = 0 := by
  rw [par_first m c ⟨5 + r, by omega⟩ ⟨k, by omega⟩, m1_eq]
  pointwise
  rw [m1Left_eq]
  pointwise
  rw [dif_neg (by omega), dif_neg (by omega)]
  exact v55_at m c _ k

theorem par_top_P (r : Fin 3) (k : Fin 32) :
    par m c (ix2 ⟨r, by omega⟩ ⟨k, by omega⟩) = w1P m c (ix2 k r) := by
  rw [par_first_top m c r ⟨k, by omega⟩, v51_at, dif_pos k.isLt]

theorem par_top_C (r : Fin 3) (k : Fin 32) :
    par m c (ix2 ⟨r, by omega⟩ ⟨32 + k, by omega⟩) = 0 := by
  rw [par_first_top m c r ⟨32 + k, by omega⟩, v51_at, dif_neg (by simp)]

theorem par_mid_P (r : Fin 2) (k : Fin 32) :
    par m c (ix2 ⟨3 + r, by omega⟩ ⟨k, by omega⟩) = 0 := by
  rw [par_first_mid m c r ⟨k, by omega⟩, v54_at, dif_pos k.isLt]

theorem par_mid_C (r : Fin 2) (k : Fin 32) :
    par m c (ix2 ⟨3 + r, by omega⟩ ⟨32 + k, by omega⟩) = w1C m c (ix2 k r) := by
  rw [par_first_mid m c r ⟨32 + k, by omega⟩, v54_at, dif_neg (by simp)]
  simp

/-- Columns 64 to 75 hold the identity. -/
theorem par_first_pass (r q : Fin 12) : par m c (ix2 ⟨r, by omega⟩ ⟨64 + q, by omega⟩) =
    if r = q then 1 else 0 := by
  rw [par_first m c r ⟨64 + q, by omega⟩, m1_eq]
  pointwise
  exact v62_at m c r q

/-- The remaining columns are zero. -/
theorem par_first_rest (r : Fin 12) (k : Fin 52) : par m c (ix2 ⟨r, by omega⟩ ⟨76 + k, by omega⟩) = 0 := by
  rw [par_first m c r ⟨76 + k, by omega⟩, m1_eq]
  pointwise
  rw [dif_neg (by omega), dif_neg (by omega)]
  exact v63_at m c r _

/-! ## The first bias and the marks -/

theorem par_bias_row (k : Fin 128) : par m c (ix2 140 k) = V m c main_v94 (ix2 0 k) := by
  unfold par
  rw [params_eq]
  pointwise

theorem par_bias_P (k : Fin 32) : par m c (ix2 140 ⟨k, by omega⟩) = b1P m c (ix1 k) := by
  rw [par_bias_row, v94_at, dif_pos (by simp; omega), dif_pos k.isLt]

theorem par_bias_C (k : Fin 32) : par m c (ix2 140 ⟨32 + k, by omega⟩) = b1C m c (ix1 k) := by
  rw [par_bias_row, v94_at, dif_pos (by simp; omega), dif_neg (by simp)]
  simp

theorem par_bias_rest (k : Fin 64) : par m c (ix2 140 ⟨64 + k, by omega⟩) = 0 := by
  rw [par_bias_row, v94_at, dif_neg (by simp)]

theorem par_mark (k : Fin 128) : par m c (ix2 142 k) = if k.val < 64 then 0 else 1 := by
  rw [← v92_at m c k]
  unfold par
  rw [params_eq]
  pointwise

end Cert.KernelIdeal.Host

end
-- ==== Proof.HostSecond.lean ====
/-
  The packed parameters at an entry: the second matrix and the second bias.
-/
module

public import proofs.«01_k».proof.Proof.HostStages

@[expose] public section

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (c : Dev nD)

/-- Row 0 or 1 of table `q`, at column `j`: all that two-valued codes can look up. -/
def row (q : Fin 7) (i : Fin 2) (j : Fin 32) : EReal :=
  match q with
  | 0 => tab0 m c (ix2 i j)
  | 1 => tab1 m c (ix2 i j)
  | 2 => tab2 m c (ix2 i j)
  | 3 => tab3 m c (ix2 ⟨i, by omega⟩ j)
  | 4 => tab4 m c (ix2 ⟨i, by omega⟩ j)
  | 5 => tab5 m c (ix2 ⟨i, by omega⟩ j)
  | 6 => tab6 m c (ix2 ⟨i, by omega⟩ j)

/-! ## The joined tables -/

theorem v14_at (j : Fin 32) : V m c main_v14 (ix2 0 j) = row m c 0 0 j := by
  unfold V
  after_reads_at
  rfl
theorem v15_at (j : Fin 32) : V m c main_v15 (ix2 0 j) = row m c 1 0 j := by
  unfold V
  after_reads_at
  rfl
theorem v16_at (j : Fin 32) : V m c main_v16 (ix2 0 j) = row m c 2 0 j := by
  unfold V
  after_reads_at
  rfl
theorem v17_at (j : Fin 32) : V m c main_v17 (ix2 0 j) = row m c 3 0 j := by
  unfold V
  after_reads_at
  rfl
theorem v18_at (j : Fin 32) : V m c main_v18 (ix2 0 j) = row m c 4 0 j := by
  unfold V
  after_reads_at
  rfl
theorem v19_at (j : Fin 32) : V m c main_v19 (ix2 0 j) = row m c 5 0 j := by
  unfold V
  after_reads_at
  rfl
theorem v20_at (j : Fin 32) : V m c main_v20 (ix2 0 j) = row m c 6 0 j := by
  unfold V
  after_reads_at
  rfl
theorem v36_at (j : Fin 32) : V m c main_v36 (ix2 0 j) = row m c 0 1 j := by
  unfold V
  after_reads_at
  rfl
theorem v37_at (j : Fin 32) : V m c main_v37 (ix2 0 j) = row m c 1 1 j := by
  unfold V
  after_reads_at
  rfl
theorem v38_at (j : Fin 32) : V m c main_v38 (ix2 0 j) = row m c 2 1 j := by
  unfold V
  after_reads_at
  rfl
theorem v39_at (j : Fin 32) : V m c main_v39 (ix2 0 j) = row m c 3 1 j := by
  unfold V
  after_reads_at
  rfl
theorem v40_at (j : Fin 32) : V m c main_v40 (ix2 0 j) = row m c 4 1 j := by
  unfold V
  after_reads_at
  rfl
theorem v41_at (j : Fin 32) : V m c main_v41 (ix2 0 j) = row m c 5 1 j := by
  unfold V
  after_reads_at
  rfl
theorem v42_at (j : Fin 32) : V m c main_v42 (ix2 0 j) = row m c 6 1 j := by
  unfold V
  after_reads_at
  rfl

/-- The array of first rows holds row 0 of every table. -/
theorem firsts_at (q : Fin 7) (j : Fin 32) : V m c main_v21 (ix2 q j) = row m c q 0 j := by
  rw [firsts_eq]
  fin_cases q
  · exact (by pointwise : _ = V m c main_v14 (ix2 0 j)).trans (v14_at m c j)
  · exact (by pointwise : _ = V m c main_v15 (ix2 0 j)).trans (v15_at m c j)
  · exact (by pointwise : _ = V m c main_v16 (ix2 0 j)).trans (v16_at m c j)
  · exact (by pointwise : _ = V m c main_v17 (ix2 0 j)).trans (v17_at m c j)
  · exact (by pointwise : _ = V m c main_v18 (ix2 0 j)).trans (v18_at m c j)
  · exact (by pointwise : _ = V m c main_v19 (ix2 0 j)).trans (v19_at m c j)
  · exact (by pointwise : _ = V m c main_v20 (ix2 0 j)).trans (v20_at m c j)

/-- The array of second rows holds row 1 of every table. -/
theorem seconds_at (q : Fin 7) (j : Fin 32) : V m c main_v43 (ix2 q j) = row m c q 1 j := by
  rw [seconds_eq]
  fin_cases q
  · exact (by pointwise : _ = V m c main_v36 (ix2 0 j)).trans (v36_at m c j)
  · exact (by pointwise : _ = V m c main_v37 (ix2 0 j)).trans (v37_at m c j)
  · exact (by pointwise : _ = V m c main_v38 (ix2 0 j)).trans (v38_at m c j)
  · exact (by pointwise : _ = V m c main_v39 (ix2 0 j)).trans (v39_at m c j)
  · exact (by pointwise : _ = V m c main_v40 (ix2 0 j)).trans (v40_at m c j)
  · exact (by pointwise : _ = V m c main_v41 (ix2 0 j)).trans (v41_at m c j)
  · exact (by pointwise : _ = V m c main_v42 (ix2 0 j)).trans (v42_at m c j)

/-- The differences of the two rows. -/
theorem delta_at (q : Fin 7) (j : Fin 32) : @Eq EReal (V m c main_v44 (ix2 q j)) (row m c q 1 j - row m c q 0 j) := by
  rw [delta_eq, ← firsts_at, ← seconds_at]
  rfl

/-- The sum of the first rows of the first five tables. -/
theorem sumP_at (j : Fin 32) : @Eq EReal (V m c main_v46 (ix1 j)) (∑ q : Fin 5, row m c ⟨q, by omega⟩ 0 j) := by
  rw [sumP_eq]
  pointwise
  exact Finset.sum_congr rfl fun q _ => firsts_at m c _ j

/-- The sum of the first rows of the last two tables. -/
theorem sumC_at (j : Fin 32) : @Eq EReal (V m c main_v48 (ix1 j)) (∑ q : Fin 2, row m c ⟨5 + q, by omega⟩ 0 j) := by
  rw [sumC_eq]
  pointwise
  exact Finset.sum_congr rfl fun q _ => firsts_at m c _ j

/-! ## Zeros and weights -/

theorem v65_at (r : Fin 5) (j : Fin 128) : @Eq EReal (V m c main_v65 (ix2 r j)) 0 := by
  unfold V
  after_reads_at
theorem v67_at (r : Fin 5) (j : Fin 96) : @Eq EReal (V m c main_v67 (ix2 r j)) 0 := by
  unfold V
  after_reads_at
theorem v69_at (r : Fin 2) (j : Fin 32) : @Eq EReal (V m c main_v69 (ix2 r j)) 0 := by
  unfold V
  after_reads_at
theorem v71_at (r : Fin 2) (j : Fin 64) : @Eq EReal (V m c main_v71 (ix2 r j)) 0 := by
  unfold V
  after_reads_at
theorem v74_at (r : Fin 32) (j : Fin 64) : @Eq EReal (V m c main_v74 (ix2 r j)) 0 := by
  unfold V
  after_reads_at
theorem v75_at (r j : Fin 32) : V m c main_v75 (ix2 r j) = w2P m c (ix2 j r) := by
  unfold V
  after_reads_at
theorem v76_at (r j : Fin 32) : @Eq EReal (V m c main_v76 (ix2 r j)) 0 := by
  unfold V
  after_reads_at
theorem v80_at (r : Fin 32) (j : Fin 128) : @Eq EReal (V m c main_v80 (ix2 r j))
    (if h : j.val < 96 then 0 else w2C m c (ix2 ⟨j - 96, by omega⟩ r)) := by
  unfold V
  after_reads_at
theorem v82_at (r : Fin 52) (j : Fin 128) : @Eq EReal (V m c main_v82 (ix2 r j)) 0 := by
  unfold V
  after_reads_at

/-! ## The second matrix in the packed parameters, by groups of rows -/

theorem par_second (r : Fin 128) (j : Fin 128) : par m c (ix2 ⟨12 + r, by omega⟩ j) = V m c main_v83 (ix2 r j) := by
  unfold par
  rw [params_eq]
  pointwise

theorem par_second_hidP (r : Fin 32) (j : Fin 128) :
    par m c (ix2 ⟨12 + r, by omega⟩ j) = V m c main_v77 (ix2 r j) := by
  rw [par_second m c ⟨r, by omega⟩, m23_eq]
  pointwise
  rw [m3_eq]
  pointwise
  rw [dif_pos (by omega)]

theorem par_second_hidC (r : Fin 32) (j : Fin 128) :
    par m c (ix2 ⟨12 + (32 + r), by omega⟩ j) = V m c main_v80 (ix2 r j) := by
  rw [par_second m c ⟨32 + r, by omega⟩, m23_eq]
  pointwise
  rw [m3_eq]
  pointwise
  rw [dif_pos (by omega)]

theorem par_second_pass (r : Fin 12) (j : Fin 128) :
    par m c (ix2 ⟨12 + (64 + r), by omega⟩ j) = V m c main_v73 (ix2 r j) := by
  rw [par_second m c ⟨64 + r, by omega⟩, m23_eq]
  pointwise

theorem par_second_rest (r : Fin 52) (j : Fin 128) :
    par m c (ix2 ⟨12 + (76 + r), by omega⟩ j) = 0 := by
  rw [par_second m c ⟨76 + r, by omega⟩, m23_eq]
  pointwise
  rw [dif_neg (by omega), dif_neg (by omega)]
  exact v82_at m c _ j

/-! ### The rows that meet the hidden units of the one continuous input -/

/-- Only columns 64 to 95 are not zero: they hold the second-layer weights. -/
theorem hidP_before (r : Fin 32) (j : Fin 64) : par m c (ix2 ⟨12 + r, by omega⟩ ⟨j, by omega⟩) = 0 := by
  rw [par_second_hidP m c r ⟨j, by omega⟩, m3P_eq]
  pointwise
  exact v74_at m c r j
@[inherit_doc hidP_before] theorem hidP_on (r j : Fin 32) :
    par m c (ix2 ⟨12 + r, by omega⟩ ⟨64 + j, by omega⟩) = w2P m c (ix2 j r) := by
  rw [par_second_hidP m c r ⟨64 + j, by omega⟩, m3P_eq, ← v75_at]
  pointwise
@[inherit_doc hidP_before] theorem hidP_after (r j : Fin 32) :
    par m c (ix2 ⟨12 + r, by omega⟩ ⟨96 + j, by omega⟩) = 0 := by
  rw [par_second_hidP m c r ⟨96 + j, by omega⟩, m3P_eq]
  pointwise
  rw [dif_neg (by omega), dif_neg (by omega)]
  exact v76_at m c r _

/-! ### The rows that meet the hidden units of the other continuous input -/

/-- Only columns 96 to 127 are not zero: they hold the second-layer weights. -/
theorem hidC_before (r : Fin 32) (j : Fin 96) :
    par m c (ix2 ⟨12 + (32 + r), by omega⟩ ⟨j, by omega⟩) = 0 := by
  rw [par_second_hidC m c r ⟨j, by omega⟩, v80_at, dif_pos j.isLt]
@[inherit_doc hidC_before] theorem hidC_on (r j : Fin 32) :
    par m c (ix2 ⟨12 + (32 + r), by omega⟩ ⟨96 + j, by omega⟩) = w2C m c (ix2 j r) := by
  rw [par_second_hidC m c r ⟨96 + j, by omega⟩, v80_at, dif_neg (by simp)]
  simp

/-! ### The rows that meet the inputs passed through -/

/-- Zeros where the continuous inputs pass through. -/
theorem pass_cont (r : Fin 5) (j : Fin 128) : par m c (ix2 ⟨12 + (64 + r), by omega⟩ j) = 0 := by
  rw [par_second_pass m c ⟨r, by omega⟩ j, m2_eq]
  pointwise
  exact v65_at m c r j

/-- The first five codes meet the rows' differences of their tables, in columns 0 to 31. -/
theorem passP_on (q : Fin 5) (j : Fin 32) :
    par m c (ix2 ⟨12 + (64 + (5 + q)), by omega⟩ ⟨j, by omega⟩) =
      row m c ⟨q, by omega⟩ 1 j - row m c ⟨q, by omega⟩ 0 j := by
  rw [par_second_pass m c ⟨5 + q, by omega⟩ ⟨j, by omega⟩, m2_eq, ← delta_at]
  pointwise
  rw [m2P_eq]
  pointwise
@[inherit_doc passP_on] theorem passP_after (q : Fin 5) (j : Fin 96) :
    par m c (ix2 ⟨12 + (64 + (5 + q)), by omega⟩ ⟨32 + j, by omega⟩) = 0 := by
  rw [par_second_pass m c ⟨5 + q, by omega⟩ ⟨32 + j, by omega⟩, m2_eq]
  pointwise
  rw [m2P_eq]
  pointwise
  exact v67_at m c q j

/-- The last two codes meet the rows' differences of their tables, in columns 32 to 63. -/
theorem passC_before (q : Fin 2) (j : Fin 32) :
    par m c (ix2 ⟨12 + (64 + (10 + q)), by omega⟩ ⟨j, by omega⟩) = 0 := by
  rw [par_second_pass m c ⟨10 + q, by omega⟩ ⟨j, by omega⟩, m2_eq]
  pointwise
  rw [m2C_eq]
  pointwise
  rw [dif_neg (by omega), dif_neg (by omega)]
  exact v69_at m c _ j
@[inherit_doc passC_before] theorem passC_on (q : Fin 2) (j : Fin 32) :
    par m c (ix2 ⟨12 + (64 + (10 + q)), by omega⟩ ⟨32 + j, by omega⟩) =
      row m c ⟨5 + q, by omega⟩ 1 j - row m c ⟨5 + q, by omega⟩ 0 j := by
  rw [par_second_pass m c ⟨10 + q, by omega⟩ ⟨32 + j, by omega⟩, m2_eq, ← delta_at]
  pointwise
  rw [m2C_eq]
  pointwise
  rw [dif_neg (by omega), dif_neg (by omega)]
  have e : (⟨5 + (10 + q.val - 5 - 5), by omega⟩ : Fin 7) = ⟨5 + q, by omega⟩ := Fin.ext (by simp; omega)
  rw [e]
@[inherit_doc passC_before] theorem passC_after (q : Fin 2) (j : Fin 64) :
    par m c (ix2 ⟨12 + (64 + (10 + q)), by omega⟩ ⟨64 + j, by omega⟩) = 0 := by
  rw [par_second_pass m c ⟨10 + q, by omega⟩ ⟨64 + j, by omega⟩, m2_eq]
  pointwise
  rw [m2C_eq]
  pointwise
  rw [dif_neg (by omega), dif_neg (by omega), dif_neg (by omega), dif_neg (by omega)]
  exact v71_at m c _ _

/-! ## The second bias -/

theorem par_bias2_row (j : Fin 128) : par m c (ix2 141 j) = V m c main_v86 (ix1 j) := by
  unfold par
  rw [params_eq]
  pointwise
  rw [bias2Row_eq]
  pointwise

theorem bias2_catP (j : Fin 32) : par m c (ix2 141 ⟨j, by omega⟩) = ∑ q : Fin 5, row m c ⟨q, by omega⟩ 0 j := by
  rw [par_bias2_row, bias2_eq, ← sumP_at]
  pointwise

theorem bias2_catC (j : Fin 32) : par m c (ix2 141 ⟨32 + j, by omega⟩) = ∑ q : Fin 2, row m c ⟨5 + q, by omega⟩ 0 j := by
  rw [par_bias2_row, bias2_eq, ← sumC_at]
  pointwise

theorem bias2_contP (j : Fin 32) : par m c (ix2 141 ⟨64 + j, by omega⟩) = b2P m c (ix1 j) := by
  rw [par_bias2_row, bias2_eq]
  pointwise
  have e : (⟨64 + j.val - 32 - 32, by omega⟩ : Fin 32) = j := Fin.ext (by simp; omega)
  rw [dif_neg (by omega), dif_neg (by omega), dif_pos (by omega), e]

theorem bias2_contC (j : Fin 32) : par m c (ix2 141 ⟨96 + j, by omega⟩) = b2C m c (ix1 j) := by
  rw [par_bias2_row, bias2_eq]
  pointwise
  have e : (⟨96 + j.val - 32 - 32 - 32, by omega⟩ : Fin 32) = j := Fin.ext (by simp; omega)
  rw [dif_neg (by omega), dif_neg (by omega), dif_neg (by omega), e]

end Cert.KernelIdeal.Host

end
-- ==== Proof.Maths.lean ====
/-
  The mathematics the proof rests on, free of programs: splitting a sum over a row of columns, the activation, and the
  identity between `code * difference` sums and a mean of looked-up entries.
-/
module

public import Idealize.ShloMosaic.PureOps.Ideal.Laws

@[expose] public section

noncomputable section

namespace Cert.Maths

open Idealize.ShloMosaic

/-- A sum over `a + b` indices is the sum over the first `a` plus the sum over the other `b`. -/
theorem sum_split (a b n : Nat) (h : n = a + b) (f : Fin n → EReal) :
    ∑ i, f i = ∑ i : Fin a, f ⟨i, by omega⟩ + ∑ i : Fin b, f ⟨a + i, by omega⟩ := by
  subst h
  exact Fin.sum_univ_add f

/-- The activation: a positive value stays, any other becomes `exp x - 1`. -/
def elu (x : EReal) : EReal := if 0 < x then x else Ideal.exp x - 1

/-- The entry a code chooses between the first two rows of a table. -/
def pick (w : BitVec 32) (t0 t1 : EReal) : EReal := if w = 0#32 then t0 else t1

/-- A finite extended real is a real. -/
theorem exists_real {x : EReal} (h : x ≠ ⊤ ∧ x ≠ ⊥) : ∃ r : ℝ, x = r := ⟨x.toReal, (EReal.coe_toReal h.1 h.2).symm⟩

/-- A sum of reals, taken in the extended reals. -/
theorem coe_sum {n : Nat} (f : Fin n → ℝ) : (∑ q, (f q : EReal)) = ((∑ q, f q : ℝ) : EReal) := by
  induction n with
  | zero => simp
  | succ n ih => rw [Fin.sum_univ_succ, Fin.sum_univ_succ, ih, EReal.coe_add]

/-- Dividing a real by a real that is not zero. -/
theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- Over the reals: the first rows' sum plus `code * difference`, both scaled by `1 / y`, is the mean of the rows the codes choose. -/
theorem mean_real {n : Nat} (w : Fin n → BitVec 32) (hw : ∀ q, w q = 0#32 ∨ w q = 1#32) (a b : Fin n → ℝ) (y : ℝ) :
    (∑ q, (((w q).toInt : ℝ)) * ((b q - a q) * (1 / y))) + (∑ q, a q) * (1 / y) =
      (∑ q, if w q = 0#32 then a q else b q) / y := by
  rw [Finset.sum_mul, ← Finset.sum_add_distrib, Finset.sum_div]
  refine Finset.sum_congr rfl fun q _ => ?_
  rcases hw q with h | h
  · rw [h, if_pos rfl]
    have h0 : ((0#32 : BitVec 32).toInt : ℝ) = 0 := by norm_num
    rw [h0]
    ring
  · rw [h, if_neg (by decide)]
    have h1 : ((1#32 : BitVec 32).toInt : ℝ) = 1 := by norm_num
    rw [h1]
    ring

/-- The same over the extended reals, where all the rows are finite. -/
theorem mean_finite {n : Nat} (w : Fin n → BitVec 32) (hw : ∀ q, w q = 0#32 ∨ w q = 1#32) (t0 t1 : Fin n → EReal)
    (h0 : ∀ q, t0 q ≠ ⊤ ∧ t0 q ≠ ⊥) (h1 : ∀ q, t1 q ≠ ⊤ ∧ t1 q ≠ ⊥) (y : ℝ) (hy : y ≠ 0) :
    (∑ q, ((((w q).toInt : ℝ)) : EReal) * ((t1 q - t0 q) * ((1 / y : ℝ) : EReal))) + (∑ q, t0 q) * ((1 / y : ℝ) : EReal) =
      Ideal.div (∑ q, pick (w q) (t0 q) (t1 q)) (y : EReal) := by
  choose a ha using fun q => exists_real (h0 q)
  choose b hb using fun q => exists_real (h1 q)
  have hp : ∀ q, pick (w q) (t0 q) (t1 q) = ((if w q = 0#32 then a q else b q : ℝ) : EReal) := by
    intro q
    unfold pick
    rw [ha, hb]
    split <;> rfl
  simp only [hp]
  simp only [ha, hb, ← EReal.coe_sub, ← EReal.coe_mul, coe_sum, ← EReal.coe_add]
  rw [mean_real w hw, div_real _ _ hy]

end Cert.Maths

end
-- ==== Proof.Columns.lean ====
/-
  One block of the kernel, fed the packed parameters, column group by column group: the two scaled lookup sums and the
  two small networks.
-/
module

public import proofs.«01_k».proof.Proof.Block
public import proofs.«01_k».proof.Proof.HostFirst
public import proofs.«01_k».proof.Proof.HostSecond
public import proofs.«01_k».proof.Proof.Maths

@[expose] public section

noncomputable section

namespace Cert.KernelIdeal.Host

open Cert.KernelIdeal Cert.KernelIdeal.Gen Idealize.ShloMosaic Idealize.ShloMosaic.TcCoe Idealize.SL.Sem
open Cert.KernelIdeal.Block Cert.Maths

variable (m : (ℓ : Loc nD τ sig) → Buf (Elt Ideal) ℓ) (c : Dev nD)
variable (x0 : S3x40x256.Idx → EReal) (x1 : S2x40x256.Idx → EReal)
  (x2 : S5x40x256.Idx → BitVec 32) (x3 : S2x40x256.Idx → BitVec 32) (s : Fin 40) (l : Fin 256)

/-! ## The twelve channels -/

theorem channel_contP (q : Fin 3) : channel x0 x1 x2 x3 s l ⟨q, by omega⟩ = x0 (ix3 q s l) := by
  unfold channel
  exact dif_pos q.isLt

theorem channel_contC (q : Fin 2) : channel x0 x1 x2 x3 s l ⟨3 + q, by omega⟩ = x1 (ix3 q s l) := by
  unfold channel
  rw [dif_neg (by simp), dif_pos (by simp; omega)]
  simp

theorem channel_catP (q : Fin 5) : channel x0 x1 x2 x3 s l ⟨5 + q, by omega⟩ = num (x2 (ix3 q s l)) := by
  unfold channel
  rw [dif_neg (by simp; omega), dif_neg (by simp; omega), dif_pos (by simp; omega)]
  exact congrArg (fun i => num (x2 (ix3 i s l))) (Fin.ext (by simp; omega))

theorem channel_catC (q : Fin 2) : channel x0 x1 x2 x3 s l ⟨10 + q, by omega⟩ = num (x3 (ix3 q s l)) := by
  unfold channel
  rw [dif_neg (by simp; omega), dif_neg (by simp; omega), dif_neg (by simp; omega)]
  exact congrArg (fun i => num (x3 (ix3 i s l))) (Fin.ext (by simp; omega))

/-! ## The hidden columns -/

/-- Hidden column `k` of the first network. -/
theorem hidden_P (k : Fin 32) : hidden (par m c) x0 x1 x2 x3 s l ⟨k, by omega⟩ =
    ∑ q : Fin 3, x0 (ix3 q s l) * w1P m c (ix2 k q) + b1P m c (ix1 k) := by
  unfold Block.hidden
  refine congrArg₂ (fun a b : EReal => a + b) ?_ (par_bias_P m c k)
  rw [sum_split 3 9 12 rfl, sum_split 2 7 9 rfl]
  have h1 : ∀ q : Fin 2, channel x0 x1 x2 x3 s l ⟨3 + q, by omega⟩ * par m c (ix2 ⟨3 + q, by omega⟩ ⟨k, by omega⟩) = 0 := fun q => by
    rw [par_mid_P, mul_zero]
  have h2 : ∀ q : Fin 7, channel x0 x1 x2 x3 s l ⟨3 + (2 + q), by omega⟩ * par m c (ix2 ⟨3 + (2 + q), by omega⟩ ⟨k, by omega⟩) = 0 := fun q => by
    have e : (⟨3 + (2 + q), by omega⟩ : Fin 143) = ⟨5 + q, by omega⟩ := Fin.ext (by simp; omega)
    rw [e, par_first_low m c q ⟨k, by omega⟩, mul_zero]
  rw [Finset.sum_eq_zero fun q _ => h1 q, Finset.sum_eq_zero fun q _ => h2 q, add_zero, add_zero]
  refine Finset.sum_congr rfl fun q _ => ?_
  rw [channel_contP, par_top_P]

/-- Hidden column `k` of the second network. -/
theorem hidden_C (k : Fin 32) : hidden (par m c) x0 x1 x2 x3 s l ⟨32 + k, by omega⟩ =
    ∑ q : Fin 2, x1 (ix3 q s l) * w1C m c (ix2 k q) + b1C m c (ix1 k) := by
  unfold Block.hidden
  refine congrArg₂ (fun a b : EReal => a + b) ?_ (par_bias_C m c k)
  rw [sum_split 3 9 12 rfl, sum_split 2 7 9 rfl]
  have h1 : ∀ q : Fin 3, channel x0 x1 x2 x3 s l ⟨q, by omega⟩ * par m c (ix2 ⟨q, by omega⟩ ⟨32 + k, by omega⟩) = 0 := fun q => by
    rw [par_top_C, mul_zero]
  have h2 : ∀ q : Fin 7, channel x0 x1 x2 x3 s l ⟨3 + (2 + q), by omega⟩ * par m c (ix2 ⟨3 + (2 + q), by omega⟩ ⟨32 + k, by omega⟩) = 0 := fun q => by
    have e : (⟨3 + (2 + q), by omega⟩ : Fin 143) = ⟨5 + q, by omega⟩ := Fin.ext (by simp; omega)
    rw [e, par_first_low m c q ⟨32 + k, by omega⟩, mul_zero]
  rw [Finset.sum_eq_zero fun q _ => h1 q, Finset.sum_eq_zero fun q _ => h2 q, zero_add, add_zero]
  refine Finset.sum_congr rfl fun q _ => ?_
  rw [channel_contC, par_mid_C]

/-- Hidden column `64 + q` passes channel `q` on. -/
theorem hidden_pass (q : Fin 12) : hidden (par m c) x0 x1 x2 x3 s l ⟨64 + q, by omega⟩ = channel x0 x1 x2 x3 s l q := by
  unfold Block.hidden
  rw [par_bias_rest m c ⟨q, by omega⟩, add_zero]
  rw [Finset.sum_congr rfl fun r _ => congrArg (channel x0 x1 x2 x3 s l r * ·) (par_first_pass m c r q),
    Finset.sum_eq_single q]
  · rw [if_pos rfl, mul_one]
  · intro r _ h
    rw [if_neg h, mul_zero]
  · intro h
    exact absurd (Finset.mem_univ q) h

/-! ## The activated columns -/

theorem half_lt_one : ((1 / 2 : ℝ) : EReal) < 1 := by
  have : ((1 / 2 : ℝ) : EReal) < ((1 : ℝ) : EReal) := EReal.coe_lt_coe_iff.mpr (by norm_num)
  simpa using this

theorem not_half_lt_zero : ¬ ((1 / 2 : ℝ) : EReal) < 0 := by
  have : (0 : EReal) ≤ ((1 / 2 : ℝ) : EReal) := EReal.coe_nonneg.mpr (by norm_num)
  exact not_lt.mpr this

/-- An unmarked column is activated. -/
theorem active_unmarked (k : Fin 128) (h : k.val < 64) :
    active (par m c) x0 x1 x2 x3 s l k = elu (hidden (par m c) x0 x1 x2 x3 s l k) := by
  unfold active elu
  rw [par_mark, if_pos h]
  simp only [not_half_lt_zero, or_false]

/-- A marked column is left as it is. -/
theorem active_marked (k : Fin 128) (h : ¬ k.val < 64) :
    active (par m c) x0 x1 x2 x3 s l k = hidden (par m c) x0 x1 x2 x3 s l k := by
  unfold active
  rw [par_mark, if_neg h]
  simp only [half_lt_one, or_true, if_true]

/-! ## The result columns -/

/-- A sum over the hidden columns, by the groups of columns that mean something. -/
theorem sum_hidden (f : Fin 128 → EReal) : ∑ k, f k =
    ∑ k : Fin 32, f ⟨k, by omega⟩ + (∑ k : Fin 32, f ⟨32 + k, by omega⟩ + (∑ k : Fin 5, f ⟨64 + k, by omega⟩ +
      (∑ k : Fin 5, f ⟨64 + (5 + k), by omega⟩ + (∑ k : Fin 2, f ⟨64 + (10 + k), by omega⟩ + ∑ k : Fin 52, f ⟨76 + k, by omega⟩)))) := by
  rw [sum_split 32 96 128 rfl f, sum_split 32 64 96 rfl, sum_split 5 59 64 rfl, sum_split 5 54 59 rfl, sum_split 2 52 54 rfl]
  have e : ∀ a b : Nat, ∀ h h', a = b → f ⟨a, h⟩ = f ⟨b, h'⟩ := by
    intro a b h h' e
    subst e
    rfl
  have e2 : ∑ k : Fin 5, f ⟨32 + (32 + k), by omega⟩ = ∑ k : Fin 5, f ⟨64 + k, by omega⟩ :=
    Finset.sum_congr rfl fun k _ => e _ _ _ _ (by omega)
  have e3 : ∑ k : Fin 5, f ⟨32 + (32 + (5 + k)), by omega⟩ = ∑ k : Fin 5, f ⟨64 + (5 + k), by omega⟩ :=
    Finset.sum_congr rfl fun k _ => e _ _ _ _ (by omega)
  have e4 : ∑ k : Fin 2, f ⟨32 + (32 + (5 + (5 + k))), by omega⟩ = ∑ k : Fin 2, f ⟨64 + (10 + k), by omega⟩ :=
    Finset.sum_congr rfl fun k _ => e _ _ _ _ (by omega)
  have e5 : ∑ k : Fin 52, f ⟨32 + (32 + (5 + (5 + (2 + k)))), by omega⟩ = ∑ k : Fin 52, f ⟨76 + k, by omega⟩ :=
    Finset.sum_congr rfl fun k _ => e _ _ _ _ (by omega)
  rw [← e2, ← e3, ← e4, ← e5]

/-- A weighted sum over the hidden columns where only the five codes' columns have a weight. -/
theorem sum_only_catP (e w : Fin 128 → EReal) (d : EReal) (hP : ∀ k : Fin 32, w ⟨k, by omega⟩ = 0) (hC : ∀ k : Fin 32, w ⟨32 + k, by omega⟩ = 0) (p5 : ∀ k : Fin 5, w ⟨64 + k, by omega⟩ = 0) (cC : ∀ k : Fin 2, w ⟨64 + (10 + k), by omega⟩ = 0) (re : ∀ k : Fin 52, w ⟨76 + k, by omega⟩ = 0) :
    ∑ k, e k * (w k * d) = ∑ k : Fin 5, e ⟨64 + (5 + k), by omega⟩ * (w ⟨64 + (5 + k), by omega⟩ * d) := by
  rw [sum_hidden]
  simp only [hP, hC, p5, cC, re, zero_mul, mul_zero, Finset.sum_const_zero, zero_add, add_zero]

/-- A weighted sum over the hidden columns where only the two codes' columns have a weight. -/
theorem sum_only_catC (e w : Fin 128 → EReal) (d : EReal) (hP : ∀ k : Fin 32, w ⟨k, by omega⟩ = 0) (hC : ∀ k : Fin 32, w ⟨32 + k, by omega⟩ = 0) (p5 : ∀ k : Fin 5, w ⟨64 + k, by omega⟩ = 0) (cP : ∀ k : Fin 5, w ⟨64 + (5 + k), by omega⟩ = 0) (re : ∀ k : Fin 52, w ⟨76 + k, by omega⟩ = 0) :
    ∑ k, e k * (w k * d) = ∑ k : Fin 2, e ⟨64 + (10 + k), by omega⟩ * (w ⟨64 + (10 + k), by omega⟩ * d) := by
  rw [sum_hidden]
  simp only [hP, hC, p5, cP, re, zero_mul, mul_zero, Finset.sum_const_zero, zero_add, add_zero]

/-- A weighted sum over the hidden columns where only the first network's columns have a weight. -/
theorem sum_only_hiddenP (e w : Fin 128 → EReal) (d : EReal) (hC : ∀ k : Fin 32, w ⟨32 + k, by omega⟩ = 0) (p5 : ∀ k : Fin 5, w ⟨64 + k, by omega⟩ = 0) (cP : ∀ k : Fin 5, w ⟨64 + (5 + k), by omega⟩ = 0) (cC : ∀ k : Fin 2, w ⟨64 + (10 + k), by omega⟩ = 0) (re : ∀ k : Fin 52, w ⟨76 + k, by omega⟩ = 0) :
    ∑ k, e k * (w k * d) = ∑ k : Fin 32, e ⟨k, by omega⟩ * (w ⟨k, by omega⟩ * d) := by
  rw [sum_hidden]
  simp only [hC, p5, cP, cC, re, zero_mul, mul_zero, Finset.sum_const_zero, zero_add, add_zero]

/-- A weighted sum over the hidden columns where only the second network's columns have a weight. -/
theorem sum_only_hiddenC (e w : Fin 128 → EReal) (d : EReal) (hP : ∀ k : Fin 32, w ⟨k, by omega⟩ = 0) (p5 : ∀ k : Fin 5, w ⟨64 + k, by omega⟩ = 0) (cP : ∀ k : Fin 5, w ⟨64 + (5 + k), by omega⟩ = 0) (cC : ∀ k : Fin 2, w ⟨64 + (10 + k), by omega⟩ = 0) (re : ∀ k : Fin 52, w ⟨76 + k, by omega⟩ = 0) :
    ∑ k, e k * (w k * d) = ∑ k : Fin 32, e ⟨32 + k, by omega⟩ * (w ⟨32 + k, by omega⟩ * d) := by
  rw [sum_hidden]
  simp only [hP, p5, cP, cC, re, zero_mul, mul_zero, Finset.sum_const_zero, zero_add, add_zero]

/-- A table row's columns past its own group, the column given by its number. -/
theorem passP_beyond (q : Fin 5) (i : Fin 96) (j : Fin 128) (h : j.val = 32 + i.val) :
    par m c (ix2 ⟨12 + (64 + (5 + q)), by omega⟩ j) = 0 := by
  have e : j = ⟨32 + i, by omega⟩ := Fin.ext h
  rw [e, passP_after]

theorem passC_beyond (q : Fin 2) (i : Fin 64) (j : Fin 128) (h : j.val = 64 + i.val) :
    par m c (ix2 ⟨12 + (64 + (10 + q)), by omega⟩ j) = 0 := by
  have e : j = ⟨64 + i, by omega⟩ := Fin.ext h
  rw [e, passC_after]

/-- The value the body leaves at an entry. -/
abbrev out (j : Fin 128) : EReal := out0_5 (F := Ideal) x0 x1 x2 x3 (par m c) (ix3 l s j)

/-- Columns 0 to 31: `code * difference` over the five tables plus their first rows, scaled by a fifth. -/
theorem out_catP (j : Fin 32) : out m c x0 x1 x2 x3 s l ⟨j, by omega⟩ =
    ∑ q : Fin 5, num (x2 (ix3 q s l)) * ((row m c ⟨q, by omega⟩ 1 j - row m c ⟨q, by omega⟩ 0 j) * ((1 / 5 : ℝ) : EReal)) +
      (∑ q : Fin 5, row m c ⟨q, by omega⟩ 0 j) * ((1 / 5 : ℝ) : EReal) := by
  have hs : scale ⟨j, by omega⟩ = ((1 / 5 : ℝ) : EReal) := by
    unfold scale
    exact if_pos j.isLt
  unfold out
  rw [out_at, hs, bias2_catP]
  congr 1
  refine (sum_only_catP (active (par m c) x0 x1 x2 x3 s l) (fun k => par m c (ix2 ⟨12 + k, by omega⟩ ⟨j, by omega⟩)) _
    (fun k => hidP_before m c k ⟨j, by omega⟩)
    (fun k => hidC_before m c k ⟨j, by omega⟩)
    (fun k => pass_cont m c k ⟨j, by omega⟩)
    (fun k => passC_before m c k j)
    (fun k => par_second_rest m c k ⟨j, by omega⟩)).trans ?_
  refine Finset.sum_congr rfl fun q _ => ?_
  rw [passP_on, active_marked _ _ _ _ _ _ _ _ _ (by simp), hidden_pass m c x0 x1 x2 x3 s l ⟨5 + q, by omega⟩, channel_catP]

/-- Columns 32 to 63: the same over the two tables, scaled by a half. -/
theorem out_catC (j : Fin 32) : out m c x0 x1 x2 x3 s l ⟨32 + j, by omega⟩ =
    ∑ q : Fin 2, num (x3 (ix3 q s l)) * ((row m c ⟨5 + q, by omega⟩ 1 j - row m c ⟨5 + q, by omega⟩ 0 j) * ((1 / 2 : ℝ) : EReal)) +
      (∑ q : Fin 2, row m c ⟨5 + q, by omega⟩ 0 j) * ((1 / 2 : ℝ) : EReal) := by
  have hs : scale ⟨32 + j, by omega⟩ = ((1 / 2 : ℝ) : EReal) := by
    unfold scale
    rw [if_neg (by simp), if_pos (by simp; omega)]
  unfold out
  rw [out_at, hs, bias2_catC]
  congr 1
  refine (sum_only_catC (active (par m c) x0 x1 x2 x3 s l) (fun k => par m c (ix2 ⟨12 + k, by omega⟩ ⟨32 + j, by omega⟩)) _
    (fun k => hidP_before m c k ⟨32 + j, by omega⟩)
    (fun k => hidC_before m c k ⟨32 + j, by omega⟩)
    (fun k => pass_cont m c k ⟨32 + j, by omega⟩)
    (fun k => passP_after m c k ⟨j, by omega⟩)
    (fun k => par_second_rest m c k ⟨32 + j, by omega⟩)).trans ?_
  refine Finset.sum_congr rfl fun q _ => ?_
  rw [passC_on, active_marked _ _ _ _ _ _ _ _ _ (by simp), hidden_pass m c x0 x1 x2 x3 s l ⟨10 + q, by omega⟩, channel_catC]

/-- Columns 64 to 95: the first network. -/
theorem out_contP (j : Fin 32) : out m c x0 x1 x2 x3 s l ⟨64 + j, by omega⟩ =
    ∑ k : Fin 32, elu (∑ q : Fin 3, x0 (ix3 q s l) * w1P m c (ix2 k q) + b1P m c (ix1 k)) * w2P m c (ix2 j k) + b2P m c (ix1 j) := by
  have hs : scale ⟨64 + j, by omega⟩ = 1 := by
    unfold scale
    rw [if_neg (by simp; omega), if_neg (by simp)]
  unfold out
  rw [out_at, hs, bias2_contP, mul_one]
  congr 1
  refine (sum_only_hiddenP (active (par m c) x0 x1 x2 x3 s l) (fun k => par m c (ix2 ⟨12 + k, by omega⟩ ⟨64 + j, by omega⟩)) _
    (fun k => hidC_before m c k ⟨64 + j, by omega⟩)
    (fun k => pass_cont m c k ⟨64 + j, by omega⟩)
    (fun k => passP_beyond m c k ⟨32 + j, by omega⟩ ⟨64 + j, by omega⟩ (by simp; omega))
    (fun k => passC_after m c k ⟨j, by omega⟩)
    (fun k => par_second_rest m c k ⟨64 + j, by omega⟩)).trans ?_
  refine Finset.sum_congr rfl fun k _ => ?_
  rw [hidP_on, mul_one, active_unmarked _ _ _ _ _ _ _ _ _ (by simp; omega), hidden_P]

/-- Columns 96 to 127: the second network. -/
theorem out_contC (j : Fin 32) : out m c x0 x1 x2 x3 s l ⟨96 + j, by omega⟩ =
    ∑ k : Fin 32, elu (∑ q : Fin 2, x1 (ix3 q s l) * w1C m c (ix2 k q) + b1C m c (ix1 k)) * w2C m c (ix2 j k) + b2C m c (ix1 j) := by
  have hs : scale ⟨96 + j, by omega⟩ = 1 := by
    unfold scale
    rw [if_neg (by simp; omega), if_neg (by simp; omega)]
  unfold out
  rw [out_at, hs, bias2_contC, mul_one]
  congr 1
  refine (sum_only_hiddenC (active (par m c) x0 x1 x2 x3 s l) (fun k => par m c (ix2 ⟨12 + k, by omega⟩ ⟨96 + j, by omega⟩)) _
    (fun k => hidP_after m c k j)
    (fun k => pass_cont m c k ⟨96 + j, by omega⟩)
    (fun k => passP_beyond m c k ⟨64 + j, by omega⟩ ⟨96 + j, by omega⟩ (by simp; omega))
    (fun k => passC_beyond m c k ⟨32 + j, by omega⟩ ⟨96 + j, by omega⟩ (by simp; omega))
    (fun k => par_second_rest m c k ⟨96 + j, by omega⟩)).trans ?_
  refine Finset.sum_congr rfl fun k _ => ?_
  rw [hidC_on, mul_one, active_unmarked _ _ _ _ _ _ _ _ _ (by simp; omega), hidden_C]

end Cert.KernelIdeal.Host

end
-- ==== Proof.Final.lean ====
/-
  The kernel's result array, entry by entry: which block an entry lies in, which entries of the arguments that block reads.
-/
module

public import proofs.«01_k».proof.Proof.Columns
public import proofs.«01_k».proof.Proof.Gen.KernelIdeal.Value
public import Idealize.ShloMosaic.Lib.Pipeline.ValueKit

@[expose] public section

noncomputable section

namespace Cert.KernelIdeal.Host

open Cert.KernelIdeal Cert.KernelIdeal.Gen Idealize.ShloMosaic Idealize.ShloMosaic.TcCoe Idealize.SL.Sem
open Cert.KernelIdeal.Block Cert.Maths

variable (m : (ℓ : Loc nD τ sig) → Buf (Elt Ideal) ℓ) (c : Dev nD)

/-! ## The arguments -/

abbrev contP : S4096x200x3.Idx → EReal := m ((c : Thread nD τ).loc main_arg0)
abbrev contC : S4096x200x2.Idx → EReal := m ((c : Thread nD τ).loc main_arg1)
abbrev catP : S4096x200x5.Idx → BitVec 32 := m ((c : Thread nD τ).loc main_arg2)
abbrev catC : S4096x200x2.Idx → BitVec 32 := m ((c : Thread nD τ).loc main_arg3)

/-! ## The transposed operands -/

theorem v96_at (q : Fin 3) (s : Fin 200) (b : Fin 4096) : V m c main_v96 (ix3 q s b) = contP m c (ix3 b s q) := by
  unfold V
  after_reads_at

theorem v97_at (q : Fin 2) (s : Fin 200) (b : Fin 4096) : V m c main_v97 (ix3 q s b) = contC m c (ix3 b s q) := by
  unfold V
  after_reads_at

theorem v98_at (q : Fin 5) (s : Fin 200) (b : Fin 4096) : V m c main_v98 (ix3 q s b) = catP m c (ix3 b s q) := by
  unfold V
  after_reads_at

theorem v99_at (q : Fin 2) (s : Fin 200) (b : Fin 4096) : V m c main_v99 (ix3 q s b) = catC m c (ix3 b s q) := by
  unfold V
  after_reads_at

/-! ## The blocks' places -/

theorem place0 : ∀ t : Fin cfg0.N, win0_0.index t = ![0, (grid0.coords t 1).val, (grid0.coords t 0).val] :=
  (by decide +kernel : ∀ t : Fin grid0.N, _)
theorem place1 : ∀ t : Fin cfg0.N, win0_1.index t = ![0, (grid0.coords t 1).val, (grid0.coords t 0).val] :=
  (by decide +kernel : ∀ t : Fin grid0.N, _)
theorem place2 : ∀ t : Fin cfg0.N, win0_2.index t = ![0, (grid0.coords t 1).val, (grid0.coords t 0).val] :=
  (by decide +kernel : ∀ t : Fin grid0.N, _)
theorem place3 : ∀ t : Fin cfg0.N, win0_3.index t = ![0, (grid0.coords t 1).val, (grid0.coords t 0).val] :=
  (by decide +kernel : ∀ t : Fin grid0.N, _)
theorem place4 : ∀ t : Fin cfg0.N, win0_4.index t = ![0, 0] :=
  (by decide +kernel : ∀ t : Fin grid0.N, _)
theorem place5 : ∀ t : Fin cfg0.N, win0_5.index t = ![(grid0.coords t 0).val, (grid0.coords t 1).val, 0] :=
  (by decide +kernel : ∀ t : Fin grid0.N, _)

/-- The batch row of lane `l` at a grid point. -/
def batch (t : Fin cfg0.N) (l : Fin 256) : Fin 4096 :=
  ⟨(grid0.coords t 0).val * 256 + l.val, by have : (grid0.coords t 0).val < 16 := (grid0.coords t 0).isLt; omega⟩

/-- The position of row `s` at a grid point. -/
def position (t : Fin cfg0.N) (s : Fin 40) : Fin 200 :=
  ⟨(grid0.coords t 1).val * 40 + s.val, by have : (grid0.coords t 1).val < 5 := (grid0.coords t 1).isLt; omega⟩

theorem block0 (t : Fin cfg0.N) (q : Fin 3) (s : Fin 40) (l : Fin 256) :
    iblk m c 0 t (ix3 q s l) = contP m c (ix3 (batch t l) (position t s) q) := by
  rw [← v96_at]
  unfold batch position
  blk_ext! [iblk, place0 t]

theorem block1 (t : Fin cfg0.N) (q : Fin 2) (s : Fin 40) (l : Fin 256) :
    iblk m c 1 t (ix3 q s l) = contC m c (ix3 (batch t l) (position t s) q) := by
  rw [← v97_at]
  unfold batch position
  blk_ext! [iblk, place1 t]

theorem block2 (t : Fin cfg0.N) (q : Fin 5) (s : Fin 40) (l : Fin 256) :
    iblk m c 2 t (ix3 q s l) = catP m c (ix3 (batch t l) (position t s) q) := by
  rw [← v98_at]
  unfold batch position
  blk_ext! [iblk, place2 t]

theorem block3 (t : Fin cfg0.N) (q : Fin 2) (s : Fin 40) (l : Fin 256) :
    iblk m c 3 t (ix3 q s l) = catC m c (ix3 (batch t l) (position t s) q) := by
  rw [← v99_at]
  unfold batch position
  blk_ext! [iblk, place3 t]

theorem block4 (t : Fin cfg0.N) : iblk m c 4 t = par m c := by
  unfold par
  blk_ext! [iblk, place4 t]

/-- Where a grid point's result entry lies in the whole result. -/
theorem block5 (t : Fin cfg0.N) (l : Fin 256) (s : Fin 40) (j : Fin 128) :
    ((cfg0.win 5).blk t).view.emb (ix3 l s j) = ix3 (batch t l) (position t s) j := by
  unfold batch position
  blk_ext [place5 t]

/-! ## The result -/

/-- The result as a function of the arguments, by column group. -/
def result (b : Fin 4096) (s : Fin 200) (j : Fin 128) : EReal :=
  if h : j.val < 32 then
    ∑ q : Fin 5, num (catP m c (ix3 b s q)) * ((row m c ⟨q, by omega⟩ 1 ⟨j, h⟩ - row m c ⟨q, by omega⟩ 0 ⟨j, h⟩) * ((1 / 5 : ℝ) : EReal)) +
      (∑ q : Fin 5, row m c ⟨q, by omega⟩ 0 ⟨j, h⟩) * ((1 / 5 : ℝ) : EReal)
  else if h : j.val - 32 < 32 then
    ∑ q : Fin 2, num (catC m c (ix3 b s q)) * ((row m c ⟨5 + q, by omega⟩ 1 ⟨j - 32, h⟩ - row m c ⟨5 + q, by omega⟩ 0 ⟨j - 32, h⟩) * ((1 / 2 : ℝ) : EReal)) +
      (∑ q : Fin 2, row m c ⟨5 + q, by omega⟩ 0 ⟨j - 32, h⟩) * ((1 / 2 : ℝ) : EReal)
  else if h : j.val - 32 - 32 < 32 then
    ∑ k : Fin 32, elu (∑ q : Fin 3, contP m c (ix3 b s q) * w1P m c (ix2 k q) + b1P m c (ix1 k)) * w2P m c (ix2 ⟨j - 32 - 32, h⟩ k) +
      b2P m c (ix1 ⟨j - 32 - 32, h⟩)
  else
    ∑ k : Fin 32, elu (∑ q : Fin 2, contC m c (ix3 b s q) * w1C m c (ix2 k q) + b1C m c (ix1 k)) * w2C m c (ix2 ⟨j - 32 - 32 - 32, by omega⟩ k) +
      b2C m c (ix1 ⟨j - 32 - 32 - 32, by omega⟩)

/-- A block's entry is the result's entry at the block's place. -/
theorem block_result (t : Fin cfg0.N) (l : Fin 256) (s : Fin 40) (j : Fin 128) :
    @Eq EReal (out0_5 (F := Ideal) (iblk m c 0 t) (iblk m c 1 t) (iblk m c 2 t) (iblk m c 3 t) (iblk m c 4 t) (ix3 l s j))
      (result m c (batch t l) (position t s) j) := by
  rw [block4]
  unfold result
  by_cases h : j.val < 32
  · rw [dif_pos h]
    refine (out_catP m c _ _ _ _ s l ⟨j, h⟩).trans ?_
    simp only [block2]
  · rw [dif_neg h]
    by_cases h' : j.val - 32 < 32
    · rw [dif_pos h']
      have e : j = ⟨32 + (⟨j - 32, h'⟩ : Fin 32).val, by omega⟩ := Fin.ext (by simp; omega)
      conv_lhs => rw [e]
      refine (out_catC m c _ _ _ _ s l ⟨j - 32, h'⟩).trans ?_
      simp only [block3]
    · rw [dif_neg h']
      by_cases h'' : j.val - 32 - 32 < 32
      · rw [dif_pos h'']
        have e : j = ⟨64 + (⟨j - 32 - 32, h''⟩ : Fin 32).val, by omega⟩ := Fin.ext (by simp; omega)
        conv_lhs => rw [e]
        refine (out_contP m c _ _ _ _ s l ⟨j - 32 - 32, h''⟩).trans ?_
        simp only [block0]
      · rw [dif_neg h'']
        have e : j = ⟨96 + (⟨j - 32 - 32 - 32, by omega⟩ : Fin 32).val, by omega⟩ := Fin.ext (by simp; omega)
        conv_lhs => rw [e]
        refine (out_contC m c _ _ _ _ s l ⟨j - 32 - 32 - 32, by omega⟩).trans ?_
        simp only [block1]

/-- The kernel's result array, after the run. -/
theorem final_at (b : Fin 4096) (s : Fin 200) (j : Fin 128) :
    @Eq EReal ((dats m 0 c).arrAt 5 cfg0.N (ix3 b s j)) (result m c b s j) := by
  have key : (dats m 0 c).arrAt 5 cfg0.N = fun i : S4096x200x128.Idx => result m c (i 0) (i 1) (i 2) := by
    refine (dats m 0 c).arrAt_eq_of_covers 5 _ (by decide +kernel) fun t hf y => ?_
    blk_simp
    rw [after0_5]
    idx_vars y
    exact (block_result m c t y0 y1 y2).trans
      (congrArg (fun i : S4096x200x128.Idx => result m c (i 0) (i 1) (i 2)) (block5 t y0 y1 y2)).symm
  rw [key]
  rfl

end Cert.KernelIdeal.Host

end
-- ==== Proof.Lookup.lean ====
/-
  Looking rows of a table up at a rectangle of codes: the gather read at an entry.
-/
module

public import Idealize.ShloMosaic.Lib.Pointwise
public import proofs.«01_k».proof.Proof.Maths

@[expose] public section

noncomputable section

namespace Cert.Lookup

open Idealize.ShloMosaic Cert.Maths

/-- The dimension numbers of a row lookup: a table of `N` rows of `C` entries, start rows over `R × S` positions. -/
abbrev rowDims (N C R S : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- The lookup at position `(r, s)`, column `j`: the table at the clamped start row of that position. -/
theorem gather_row_at {α : Type} {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (j : Fin C) :
    Host.gather (rowDims N C R S wf) x idx (ix3 r s j) =
      x (ix2 ⟨min (idx (ix3 r s 0)).toInt.toNat (N - 1), by omega⟩ j) := by
  unfold Host.gather
  congr 1
  funext a
  refine Fin.ext ?_
  show (rowDims N C R S wf).start (ix3 r s j) idx a + (rowDims N C R S wf).batchCoord (ix3 r s j) a
      + (rowDims N C R S wf).offCoord (ix3 r s j) a = _
  have axis : a = (0 : Fin 2) ∨ a = (1 : Fin 2) := by
    match a with
    | ⟨0, _⟩ => exact Or.inl rfl
    | ⟨1, _⟩ => exact Or.inr rfl
  rcases axis with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R S wf).startIndexMap from List.mem_singleton.mpr rfl)]
    have hsi : (rowDims N C R S wf).siIdx (ix3 r s j) ⟨List.idxOf (0 : Fin 2) (rowDims N C R S wf).startIndexMap,
        List.idxOf_lt_length_iff.2 (List.mem_singleton.mpr rfl)⟩ = ix3 r s 0 := by
      funext b
      refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ (rowDims N C R S wf).startIndexMap from by simp)]
    unfold GatherDims.offCoord
    rw [dif_pos (by rw [GatherDims.mem_sKept]; simp)]
    simp only [Nat.zero_add]
    rfl

/-- With a two-valued start row the lookup reads one of the first two rows. -/
theorem gather_pick {N C R S : Nat} (hN : 2 ≤ N)
    (wf : GatherDims.WF ⟨2, ![N, C]⟩ ⟨3, ![R, S, 1]⟩ ⟨3, ![R, S, C]⟩ [2] [0] [] [0] [] 2 ![1, C])
    (x : (⟨2, ![N, C]⟩ : Shape).Idx → EReal) (idx : IVec ⟨3, ![R, S, 1]⟩ 32) (r : Fin R) (s : Fin S) (j : Fin C)
    (w : BitVec 32) (e : idx (ix3 r s 0) = w) (hw : w = 0#32 ∨ w = 1#32) :
    Host.gather (rowDims N C R S wf) x idx (ix3 r s j) =
      pick w (x (ix2 ⟨0, by omega⟩ j)) (x (ix2 ⟨1, by omega⟩ j)) := by
  rw [gather_row_at (by omega) wf]
  unfold pick
  rcases hw with h | h
  · rw [if_pos h]
    refine congrArg x (congrArg (fun i => ix2 i j) (Fin.ext ?_))
    show min (idx (ix3 r s 0)).toInt.toNat (N - 1) = 0
    rw [e, h]
    simp
  · rw [if_neg (by rw [h]; decide)]
    refine congrArg x (congrArg (fun i => ix2 i j) (Fin.ext ?_))
    show min (idx (ix3 r s 0)).toInt.toNat (N - 1) = 1
    rw [e, h]
    have h1 : (1#32 : BitVec 32).toInt.toNat = 1 := by decide
    rw [h1]
    omega

/-- Wrapping a two-valued code around (a negative one counts from the end) leaves it. -/
theorem wrap_code (w n : BitVec 32) (hw : w = 0#32 ∨ w = 1#32) :
    Scalar.select (IntOp.cmpi CmpIPredicate.slt w 0#32) (IntOp.addi w n) w = w := by
  have h : IntOp.cmpi CmpIPredicate.slt w 0#32 = 0#1 := by
    rcases hw with h | h <;> rw [h] <;> decide
  rw [h]
  rfl

end Cert.Lookup

end
-- ==== Proof.RefValue.lean ====
/-
  The reference's result, entry by entry.
-/
module

public import proofs.«01_k».proof.Proof.Gen.ReferenceIdeal.Read
public import proofs.«01_k».proof.Proof.Lookup
public import proofs.«01_k».proof.Proof.Maths

@[expose] public section

noncomputable section

namespace Cert.ReferenceIdeal.AtEntry

open Cert.ReferenceIdeal Cert.ReferenceIdeal.Gen Cert.ReferenceIdeal.Read Idealize.ShloMosaic Idealize.ShloMosaic.TcCoe Idealize.SL.Sem
open Cert.Maths Cert.Lookup

variable (x0 : S4096x200x3.Idx → EReal) (x1 : S4096x200x2.Idx → EReal)
  (x2 : S4096x200x5.Idx → BitVec 32) (x3 : S4096x200x2.Idx → BitVec 32)
  (x6 : S32x3.Idx → EReal) (x7 : S32.Idx → EReal) (x8 : S32x32.Idx → EReal) (x9 : S32.Idx → EReal)
  (x10 : S32x2.Idx → EReal) (x11 : S32.Idx → EReal) (x12 : S32x32.Idx → EReal) (x13 : S32.Idx → EReal)
  (x14 x15 x16 : S2x32.Idx → EReal) (x17 : S11x32.Idx → EReal) (x18 : S34x32.Idx → EReal)
  (x19 : S19x32.Idx → EReal) (x20 : S31x32.Idx → EReal)

/-- The select that the activation prints as is the activation. -/
theorem select_elu (h : EReal) :
    Scalar.select (BitVec.ofBool (decide (0 < h))) h (Ideal.exp h - 1) = elu h := by
  unfold elu
  by_cases e : 0 < h
  · rw [decide_eq_true e, if_pos e]
    rfl
  · rw [decide_eq_false e, if_neg e]
    rfl

/-- Rows 0 and 1 of table `q`, the tables numbered as the codes use them. -/
def rows (q : Fin 7) (i : Fin 2) (j : Fin 32) : EReal :=
  match q with
  | 0 => x14 (ix2 i j)
  | 1 => x15 (ix2 i j)
  | 2 => x16 (ix2 i j)
  | 3 => x17 (ix2 ⟨i, by omega⟩ j)
  | 4 => x18 (ix2 ⟨i, by omega⟩ j)
  | 5 => x19 (ix2 ⟨i, by omega⟩ j)
  | 6 => x20 (ix2 ⟨i, by omega⟩ j)

/-- A code that is zero or one. -/
def Binary (w : BitVec 32) : Prop := w = 0#32 ∨ w = 1#32

/-! ## The two networks -/

/-- The first hidden layer. -/
theorem hiddenP_at (b : Fin 4096) (s : Fin 200) (k : Fin 32) :
    @Eq EReal (val_main_v10 (F := Ideal) x0 x6 x7 (ix3 b s k))
      (elu (∑ q : Fin 3, x0 (ix3 b s q) * x6 (ix2 k q) + x7 (ix1 k))) := by
  rw [← select_elu]
  pointwise [val_main_v10, val_main_v6, val_main_v9, val_main_v4, val_main_v1, val_main_v3, val_main_v2, val_main_v0,
    val_main_v7, val_main_v5, val_main_cst, val_main_v8, val_main_cst_0]

/-- The second hidden layer. -/
theorem hiddenC_at (b : Fin 4096) (s : Fin 200) (k : Fin 32) :
    @Eq EReal (val_main_v26 (F := Ideal) x1 x10 x11 (ix3 b s k))
      (elu (∑ q : Fin 2, x1 (ix3 b s q) * x10 (ix2 k q) + x11 (ix1 k))) := by
  rw [← select_elu]
  pointwise [val_main_v26, val_main_v22, val_main_v25, val_main_v20, val_main_v17, val_main_v19, val_main_v18, val_main_v16,
    val_main_v23, val_main_v21, val_main_cst_1, val_main_v24, val_main_cst_2]

/-- The first network. -/
theorem netP_at (b : Fin 4096) (s : Fin 200) (j : Fin 32) :
    @Eq EReal (val_main_v15 (F := Ideal) x0 x6 x7 x8 x9 (ix3 b s j))
      (∑ k : Fin 32, elu (∑ q : Fin 3, x0 (ix3 b s q) * x6 (ix2 k q) + x7 (ix1 k)) * x8 (ix2 j k) + x9 (ix1 j)) := by
  pointwise [val_main_v15, val_main_v12, val_main_v14, val_main_v13, val_main_v11]
  simp only [hiddenP_at]

/-- The second network. -/
theorem netC_at (b : Fin 4096) (s : Fin 200) (j : Fin 32) :
    @Eq EReal (val_main_v31 (F := Ideal) x1 x10 x11 x12 x13 (ix3 b s j))
      (∑ k : Fin 32, elu (∑ q : Fin 2, x1 (ix3 b s q) * x10 (ix2 k q) + x11 (ix1 k)) * x12 (ix2 j k) + x13 (ix1 j)) := by
  pointwise [val_main_v31, val_main_v28, val_main_v30, val_main_v29, val_main_v27]
  simp only [hiddenC_at]

/-! ## The lookups -/

/-- The start rows of table 0: its codes. -/
theorem start0 (b : Fin 4096) (s : Fin 200) (hw : Binary (x2 (ix3 b s 0))) :
    val_main_v39 (F := Ideal) x2 (ix3 b s 0) = x2 (ix3 b s 0) := by
  refine Eq.trans ?_ (wrap_code (x2 (ix3 b s 0)) 2#32 hw)
  pointwise [val_main_v39, val_main_v38, val_main_v35, val_main_v37, val_main_v33, val_main_v32, val_main_v34, val_main_v36, val_main_c, val_main_c_3]

/-- The lookups in table 0. -/
theorem take0 (b : Fin 4096) (s : Fin 200) (j : Fin 32) (hw : Binary (x2 (ix3 b s 0))) :
    @Eq EReal (val_main_v40 (F := Ideal) x2 x14 (ix3 b s j)) (pick (x2 (ix3 b s 0)) (x14 (ix2 0 j)) (x14 (ix2 1 j))) := by
  unfold val_main_v40
  exact gather_pick (by decide) _ x14 _ b s j _ (start0 x2 b s hw) hw

/-- The start rows of table 1: its codes. -/
theorem start1 (b : Fin 4096) (s : Fin 200) (hw : Binary (x2 (ix3 b s 1))) :
    val_main_v48 (F := Ideal) x2 (ix3 b s 0) = x2 (ix3 b s 1) := by
  refine Eq.trans ?_ (wrap_code (x2 (ix3 b s 1)) 2#32 hw)
  pointwise [val_main_v48, val_main_v47, val_main_v44, val_main_v46, val_main_v42, val_main_v41, val_main_v43, val_main_v45, val_main_c_4, val_main_c_5]

/-- The lookups in table 1. -/
theorem take1 (b : Fin 4096) (s : Fin 200) (j : Fin 32) (hw : Binary (x2 (ix3 b s 1))) :
    @Eq EReal (val_main_v49 (F := Ideal) x2 x15 (ix3 b s j)) (pick (x2 (ix3 b s 1)) (x15 (ix2 0 j)) (x15 (ix2 1 j))) := by
  unfold val_main_v49
  exact gather_pick (by decide) _ x15 _ b s j _ (start1 x2 b s hw) hw

/-- The start rows of table 2: its codes. -/
theorem start2 (b : Fin 4096) (s : Fin 200) (hw : Binary (x2 (ix3 b s 2))) :
    val_main_v57 (F := Ideal) x2 (ix3 b s 0) = x2 (ix3 b s 2) := by
  refine Eq.trans ?_ (wrap_code (x2 (ix3 b s 2)) 2#32 hw)
  pointwise [val_main_v57, val_main_v56, val_main_v53, val_main_v55, val_main_v51, val_main_v50, val_main_v52, val_main_v54, val_main_c_6, val_main_c_7]

/-- The lookups in table 2. -/
theorem take2 (b : Fin 4096) (s : Fin 200) (j : Fin 32) (hw : Binary (x2 (ix3 b s 2))) :
    @Eq EReal (val_main_v58 (F := Ideal) x2 x16 (ix3 b s j)) (pick (x2 (ix3 b s 2)) (x16 (ix2 0 j)) (x16 (ix2 1 j))) := by
  unfold val_main_v58
  exact gather_pick (by decide) _ x16 _ b s j _ (start2 x2 b s hw) hw

/-- The start rows of table 3: its codes. -/
theorem start3 (b : Fin 4096) (s : Fin 200) (hw : Binary (x2 (ix3 b s 3))) :
    val_main_v66 (F := Ideal) x2 (ix3 b s 0) = x2 (ix3 b s 3) := by
  refine Eq.trans ?_ (wrap_code (x2 (ix3 b s 3)) 11#32 hw)
  pointwise [val_main_v66, val_main_v65, val_main_v62, val_main_v64, val_main_v60, val_main_v59, val_main_v61, val_main_v63, val_main_c_8, val_main_c_9]

/-- The lookups in table 3. -/
theorem take3 (b : Fin 4096) (s : Fin 200) (j : Fin 32) (hw : Binary (x2 (ix3 b s 3))) :
    @Eq EReal (val_main_v67 (F := Ideal) x2 x17 (ix3 b s j)) (pick (x2 (ix3 b s 3)) (x17 (ix2 0 j)) (x17 (ix2 1 j))) := by
  unfold val_main_v67
  exact gather_pick (by decide) _ x17 _ b s j _ (start3 x2 b s hw) hw

/-- The start rows of table 4: its codes. -/
theorem start4 (b : Fin 4096) (s : Fin 200) (hw : Binary (x2 (ix3 b s 4))) :
    val_main_v75 (F := Ideal) x2 (ix3 b s 0) = x2 (ix3 b s 4) := by
  refine Eq.trans ?_ (wrap_code (x2 (ix3 b s 4)) 34#32 hw)
  pointwise [val_main_v75, val_main_v74, val_main_v71, val_main_v73, val_main_v69, val_main_v68, val_main_v70, val_main_v72, val_main_c_10, val_main_c_11]

/-- The lookups in table 4. -/
theorem take4 (b : Fin 4096) (s : Fin 200) (j : Fin 32) (hw : Binary (x2 (ix3 b s 4))) :
    @Eq EReal (val_main_v76 (F := Ideal) x2 x18 (ix3 b s j)) (pick (x2 (ix3 b s 4)) (x18 (ix2 0 j)) (x18 (ix2 1 j))) := by
  unfold val_main_v76
  exact gather_pick (by decide) _ x18 _ b s j _ (start4 x2 b s hw) hw

/-- The start rows of table 5: its codes. -/
theorem start5 (b : Fin 4096) (s : Fin 200) (hw : Binary (x3 (ix3 b s 0))) :
    val_main_v84 (F := Ideal) x3 (ix3 b s 0) = x3 (ix3 b s 0) := by
  refine Eq.trans ?_ (wrap_code (x3 (ix3 b s 0)) 19#32 hw)
  pointwise [val_main_v84, val_main_v83, val_main_v80, val_main_v82, val_main_v78, val_main_v77, val_main_v79, val_main_v81, val_main_c_12, val_main_c_13]

/-- The lookups in table 5. -/
theorem take5 (b : Fin 4096) (s : Fin 200) (j : Fin 32) (hw : Binary (x3 (ix3 b s 0))) :
    @Eq EReal (val_main_v85 (F := Ideal) x3 x19 (ix3 b s j)) (pick (x3 (ix3 b s 0)) (x19 (ix2 0 j)) (x19 (ix2 1 j))) := by
  unfold val_main_v85
  exact gather_pick (by decide) _ x19 _ b s j _ (start5 x3 b s hw) hw

/-- The start rows of table 6: its codes. -/
theorem start6 (b : Fin 4096) (s : Fin 200) (hw : Binary (x3 (ix3 b s 1))) :
    val_main_v93 (F := Ideal) x3 (ix3 b s 0) = x3 (ix3 b s 1) := by
  refine Eq.trans ?_ (wrap_code (x3 (ix3 b s 1)) 31#32 hw)
  pointwise [val_main_v93, val_main_v92, val_main_v89, val_main_v91, val_main_v87, val_main_v86, val_main_v88, val_main_v90, val_main_c_14, val_main_c_15]

/-- The lookups in table 6. -/
theorem take6 (b : Fin 4096) (s : Fin 200) (j : Fin 32) (hw : Binary (x3 (ix3 b s 1))) :
    @Eq EReal (val_main_v94 (F := Ideal) x3 x20 (ix3 b s j)) (pick (x3 (ix3 b s 1)) (x20 (ix2 0 j)) (x20 (ix2 1 j))) := by
  unfold val_main_v94
  exact gather_pick (by decide) _ x20 _ b s j _ (start6 x3 b s hw) hw

/-! ## The means -/

theorem word_five : @Eq EReal (Ideal.ofBits FTy.f32 1084227584#32) ((5 : ℝ) : EReal) := by
  simp [Ideal.ofBits, Ideal.ieee, -EReal.coe_mul]; norm_num

theorem word_two : @Eq EReal (Ideal.ofBits FTy.f32 1073741824#32) ((2 : ℝ) : EReal) := by
  simp [Ideal.ofBits, Ideal.ieee, -EReal.coe_mul]; norm_num

/-- The five stacked lookups. -/
theorem stackP_at (b : Fin 4096) (s : Fin 200) (j : Fin 32) (hw : ∀ q : Fin 5, Binary (x2 (ix3 b s q))) (q : Fin 5) :
    @Eq EReal (val_main_v100 (F := Ideal) x2 x14 x15 x16 x17 x18 (ix4 q b s j))
      (pick (x2 (ix3 b s q)) (rows x14 x15 x16 x17 x18 x19 x20 ⟨q, by omega⟩ 0 j) (rows x14 x15 x16 x17 x18 x19 x20 ⟨q, by omega⟩ 1 j)) := by
  pointwise [val_main_v100, val_main_v95, val_main_v96, val_main_v97, val_main_v98, val_main_v99]
  fin_cases q
  · exact take0 x2 x14 b s j (hw 0)
  · exact take1 x2 x15 b s j (hw 1)
  · exact take2 x2 x16 b s j (hw 2)
  · exact take3 x2 x17 b s j (hw 3)
  · exact take4 x2 x18 b s j (hw 4)

/-- The two stacked lookups. -/
theorem stackC_at (b : Fin 4096) (s : Fin 200) (j : Fin 32) (hw : ∀ q : Fin 2, Binary (x3 (ix3 b s q))) (q : Fin 2) :
    @Eq EReal (val_main_v106 (F := Ideal) x3 x19 x20 (ix4 q b s j))
      (pick (x3 (ix3 b s q)) (rows x14 x15 x16 x17 x18 x19 x20 ⟨5 + q, by omega⟩ 0 j) (rows x14 x15 x16 x17 x18 x19 x20 ⟨5 + q, by omega⟩ 1 j)) := by
  pointwise [val_main_v106, val_main_v104, val_main_v105]
  fin_cases q
  · exact take5 x3 x19 b s j (hw 0)
  · exact take6 x3 x20 b s j (hw 1)

/-- The mean of the five lookups. -/
theorem meanP_at (b : Fin 4096) (s : Fin 200) (j : Fin 32) (hw : ∀ q : Fin 5, Binary (x2 (ix3 b s q))) :
    @Eq EReal (val_main_v103 (F := Ideal) x2 x14 x15 x16 x17 x18 (ix3 b s j))
      (Ideal.div (∑ q : Fin 5, pick (x2 (ix3 b s q)) (rows x14 x15 x16 x17 x18 x19 x20 ⟨q, by omega⟩ 0 j)
        (rows x14 x15 x16 x17 x18 x19 x20 ⟨q, by omega⟩ 1 j)) ((5 : ℝ) : EReal)) := by
  pointwise [val_main_v103, val_main_v101, val_main_v102, val_main_cst_16, val_main_cst_17]
  rw [word_five, Finset.sum_congr rfl fun q _ => stackP_at x2 x14 x15 x16 x17 x18 x19 x20 b s j hw q]

/-- The mean of the two lookups. -/
theorem meanC_at (b : Fin 4096) (s : Fin 200) (j : Fin 32) (hw : ∀ q : Fin 2, Binary (x3 (ix3 b s q))) :
    @Eq EReal (val_main_v109 (F := Ideal) x3 x19 x20 (ix3 b s j))
      (Ideal.div (∑ q : Fin 2, pick (x3 (ix3 b s q)) (rows x14 x15 x16 x17 x18 x19 x20 ⟨5 + q, by omega⟩ 0 j)
        (rows x14 x15 x16 x17 x18 x19 x20 ⟨5 + q, by omega⟩ 1 j)) ((2 : ℝ) : EReal)) := by
  pointwise [val_main_v109, val_main_v107, val_main_v108, val_main_cst_18, val_main_cst_19]
  rw [word_two, Finset.sum_congr rfl fun q _ => stackC_at x3 x14 x15 x16 x17 x18 x19 x20 b s j hw q]

/-! ## The result -/

/-- The joined result, by column group. -/
theorem whole_at (b : Fin 4096) (s : Fin 200) (j : Fin 128) (hp : ∀ q : Fin 5, Binary (x2 (ix3 b s q)))
    (hc : ∀ q : Fin 2, Binary (x3 (ix3 b s q))) :
    @Eq EReal (val_main_v110 (F := Ideal) x0 x1 x2 x3 x6 x7 x8 x9 x10 x11 x12 x13 x14 x15 x16 x17 x18 x19 x20 (ix3 b s j))
      (if h : j.val < 32 then
        Ideal.div (∑ q : Fin 5, pick (x2 (ix3 b s q)) (rows x14 x15 x16 x17 x18 x19 x20 ⟨q, by omega⟩ 0 ⟨j, h⟩)
          (rows x14 x15 x16 x17 x18 x19 x20 ⟨q, by omega⟩ 1 ⟨j, h⟩)) ((5 : ℝ) : EReal)
      else if h : j.val - 32 < 32 then
        Ideal.div (∑ q : Fin 2, pick (x3 (ix3 b s q)) (rows x14 x15 x16 x17 x18 x19 x20 ⟨5 + q, by omega⟩ 0 ⟨j - 32, h⟩)
          (rows x14 x15 x16 x17 x18 x19 x20 ⟨5 + q, by omega⟩ 1 ⟨j - 32, h⟩)) ((2 : ℝ) : EReal)
      else if h : j.val - 32 - 32 < 32 then
        ∑ k : Fin 32, elu (∑ q : Fin 3, x0 (ix3 b s q) * x6 (ix2 k q) + x7 (ix1 k)) * x8 (ix2 ⟨j - 32 - 32, h⟩ k) + x9 (ix1 ⟨j - 32 - 32, h⟩)
      else
        ∑ k : Fin 32, elu (∑ q : Fin 2, x1 (ix3 b s q) * x10 (ix2 k q) + x11 (ix1 k)) * x12 (ix2 ⟨j - 32 - 32 - 32, by omega⟩ k) +
          x13 (ix1 ⟨j - 32 - 32 - 32, by omega⟩)) := by
  pointwise [val_main_v110]
  by_cases h : j.val < 32
  · rw [dif_pos h, dif_pos h]
    exact meanP_at x2 x14 x15 x16 x17 x18 x19 x20 b s ⟨j, h⟩ hp
  · rw [dif_neg h, dif_neg h]
    by_cases h' : j.val - 32 < 32
    · rw [dif_pos h', dif_pos h']
      exact meanC_at x3 x14 x15 x16 x17 x18 x19 x20 b s ⟨j - 32, h'⟩ hc
    · rw [dif_neg h', dif_neg h']
      by_cases h'' : j.val - 32 - 32 < 32
      · rw [dif_pos h'', dif_pos h'']
        exact netP_at x0 x6 x7 x8 x9 b s ⟨j - 32 - 32, h''⟩
      · rw [dif_neg h'', dif_neg h'']
        exact netC_at x1 x10 x11 x12 x13 b s ⟨j - 32 - 32 - 32, by omega⟩

end Cert.ReferenceIdeal.AtEntry

end
-- ==== Proof.Precondition.lean ====
/-
  The precondition, read back: what its printed predicate being all ones says of the codes and of the tables.
-/
module

public import proofs.«01_k».proof.Proof.Gen.Pre_binary_codes_finite_tables
public import Idealize.ShloMosaic.Lib.ReduceAll
public import Idealize.ShloMosaic.Lib.Pointwise
public import Idealize.ShloMosaic.PureOps.Ideal.Laws

@[expose] public section

noncomputable section

namespace Cert.Pre_binary_codes_finite_tables.Decode

open Cert.Pre_binary_codes_finite_tables Cert.Pre_binary_codes_finite_tables.Gen Idealize.ShloMosaic

/-- A result of no axes has one index. -/
instance : Subsingleton S_.Idx := ⟨fun _ _ => funext fun a => a.elim0⟩

/-- A conjunction of two bits that is set has both set. -/
theorem both {a b : IVec S_ 1} {k : S_.Idx} (h : andi a b k = 1#1) : a k = 1#1 ∧ b k = 1#1 :=
  IntOp.andi_eq_one.1 h

/-- A word between 0 and 1, read signed, is the word 0 or the word 1. -/
theorem binary_of_bounds (w : BitVec 32) (h0 : (0#32).toInt ≤ w.toInt) (h1 : w.toInt ≤ (1#32).toInt) : w = 0#32 ∨ w = 1#32 := by
  have e0 : (0#32).toInt = 0 := by decide
  have e1 : (1#32).toInt = 1 := by decide
  rw [e0] at h0
  rw [e1] at h1
  rcases (by omega : w.toInt = 0 ∨ w.toInt = 1) with e | e
  · exact Or.inl (BitVec.eq_of_toInt_eq (e.trans e0.symm))
  · exact Or.inr (BitVec.eq_of_toInt_eq (e.trans e1.symm))

/-- A set test "every code is at least 0 and at most 1" makes every code 0 or 1. -/
theorem codes_of {s : Shape} {axes : List (Fin s.rank)} (x : IVec s 32) (hb : S_.BroadcastsInDim s (![] : Fin 0 → Fin s.rank))
    (h : s.ReducesTo axes S_) (hu : 0 < S_.numel) (init : IVec S_ 1) (k : S_.Idx)
    (e : Host.reduce IntOp.andi (andi (cmpi .sge x (broadcastInDim s ![] hb (constantI S_ 32 0#32)))
      (cmpi .sle x (broadcastInDim s ![] hb (constantI S_ 32 1#32)))) init h hu k = 1#1) (i : s.Idx) :
    x i = 0#32 ∨ x i = 1#32 := by
  have e' := IntOp.andi_eq_one.1 (Host.reduce_andi_all _ _ _ _ _ e i)
  exact binary_of_bounds _ (IntOp.cmpi_sge.1 e'.1) (IntOp.cmpi_sle.1 e'.2)

/-- A test's bit is set exactly when the test is true. -/
theorem set_iff {b : Bool} : BitVec.ofBool b = 1#1 ↔ b = true := by cases b <;> decide

/-- The word of infinity is infinity. -/
theorem word_inf : @Eq EReal (Ideal.ofBits FTy.f32 0x7F800000#32) ⊤ := by
  simp [Ideal.ofBits, Ideal.ieee]

/-- An absolute value below infinity is that of a finite number. -/
theorem finite_of_abs (x : EReal) (h : max x (-x) < ⊤) : x ≠ ⊤ ∧ x ≠ ⊥ := by
  refine ⟨fun e => ?_, fun e => ?_⟩ <;> subst e <;> simp at h

/-- A set test "every absolute value is below infinity" makes every entry finite. -/
theorem finite_of {s : Shape} {axes : List (Fin s.rank)} (x : FVec Ideal s .f32) (hb : S_.BroadcastsInDim s (![] : Fin 0 → Fin s.rank))
    (h : s.ReducesTo axes S_) (hu : 0 < S_.numel) (init : IVec S_ 1) (k : S_.Idx)
    (e : Host.reduce IntOp.andi (cmpf .olt (Host.absf x) (broadcastInDim s ![] hb (constant S_ .f32 0x7F800000#32))) init h hu k = 1#1)
    (i : s.Idx) : x i ≠ (⊤ : EReal) ∧ x i ≠ (⊥ : EReal) := by
  have e' := Host.reduce_andi_all _ _ _ _ _ e i
  have e'' : Ideal.cmp .olt (max (x i) (-(x i))) (Ideal.ofBits FTy.f32 0x7F800000#32) = 1#1 := e'
  rw [word_inf] at e''
  refine finite_of_abs _ ?_
  unfold Ideal.cmp at e''
  exact of_decide_eq_true (set_iff.1 e'')

/-- What the precondition says: the codes are 0 or 1, and rows 0 and 1 of each table are finite. -/
structure Met (x2 : S4096x200x5.Idx → BitVec 32) (x3 : S4096x200x2.Idx → BitVec 32)
    (x14 x15 x16 : S2x32.Idx → EReal) (x17 : S11x32.Idx → EReal) (x18 : S34x32.Idx → EReal)
    (x19 : S19x32.Idx → EReal) (x20 : S31x32.Idx → EReal) : Prop where
  codesP : ∀ i, x2 i = 0#32 ∨ x2 i = 1#32
  codesC : ∀ i, x3 i = 0#32 ∨ x3 i = 1#32
  tab0 : ∀ i, x14 i ≠ ⊤ ∧ x14 i ≠ ⊥
  tab1 : ∀ i, x15 i ≠ ⊤ ∧ x15 i ≠ ⊥
  tab2 : ∀ i, x16 i ≠ ⊤ ∧ x16 i ≠ ⊥
  tab3 : ∀ (i : Fin 2) (j : Fin 32), x17 (ix2 ⟨i, by omega⟩ j) ≠ ⊤ ∧ x17 (ix2 ⟨i, by omega⟩ j) ≠ ⊥
  tab4 : ∀ (i : Fin 2) (j : Fin 32), x18 (ix2 ⟨i, by omega⟩ j) ≠ ⊤ ∧ x18 (ix2 ⟨i, by omega⟩ j) ≠ ⊥
  tab5 : ∀ (i : Fin 2) (j : Fin 32), x19 (ix2 ⟨i, by omega⟩ j) ≠ ⊤ ∧ x19 (ix2 ⟨i, by omega⟩ j) ≠ ⊥
  tab6 : ∀ (i : Fin 2) (j : Fin 32), x20 (ix2 ⟨i, by omega⟩ j) ≠ ⊤ ∧ x20 (ix2 ⟨i, by omega⟩ j) ≠ ⊥

/-- The first two rows of a taller table, as the slice that the predicate tests, read at an entry. -/
theorem slice_at {n : Nat} (hn : 2 ≤ n) (x : (⟨2, ![n, 32]⟩ : Shape).Idx → EReal) (h : (⟨2, ![n, 32]⟩ : Shape).Slices ![0, 0] S2x32)
    (i : Fin 2) (j : Fin 32) : extractStridedSlice S2x32 ![0, 0] x h (ix2 i j) = x (ix2 ⟨i, by omega⟩ j) := by
  unfold extractStridedSlice
  congr 1
  funext a
  fin_cases a <;> apply Fin.ext <;> simp [ix2]

/-- The predicate being all ones, read back. -/
theorem met_of (x0 : FVec Ideal S4096x200x3 .f32) (x1 : FVec Ideal S4096x200x2 .f32) (x2 : IVec S4096x200x5 32) (x3 : IVec S4096x200x2 32)
    (x4 : IVec S4096 32) (x5 : FVec Ideal S4096x200x1 .f32) (x6 : FVec Ideal S32x3 .f32) (x7 : FVec Ideal S32 .f32)
    (x8 : FVec Ideal S32x32 .f32) (x9 : FVec Ideal S32 .f32) (x10 : FVec Ideal S32x2 .f32) (x11 : FVec Ideal S32 .f32)
    (x12 : FVec Ideal S32x32 .f32) (x13 : FVec Ideal S32 .f32) (x14 x15 x16 : FVec Ideal S2x32 .f32) (x17 : FVec Ideal S11x32 .f32)
    (x18 : FVec Ideal S34x32 .f32) (x19 : FVec Ideal S19x32 .f32) (x20 : FVec Ideal S31x32 .f32)
    (h : fn (F := Ideal) x0 x1 x2 x3 x4 x5 x6 x7 x8 x9 x10 x11 x12 x13 x14 x15 x16 x17 x18 x19 x20 = fun _ => 1#1) :
    Met x2 x3 x14 x15 x16 x17 x18 x19 x20 := by
  have h := congrFun h ((fun a => a.elim0 : S_.Idx))
  unfold fn fn_part1 fn_part2 at h
  obtain ⟨h, t6⟩ := both h
  obtain ⟨h, t5⟩ := both h
  obtain ⟨h, t4⟩ := both h
  obtain ⟨h, t3⟩ := both h
  obtain ⟨h, t2⟩ := both h
  obtain ⟨h, t1⟩ := both h
  obtain ⟨h, t0⟩ := both h
  obtain ⟨cp, cc⟩ := both h
  refine ⟨codes_of _ _ _ _ _ _ cp, codes_of _ _ _ _ _ _ cc, finite_of _ _ _ _ _ _ t0, finite_of _ _ _ _ _ _ t1,
    finite_of _ _ _ _ _ _ t2, fun i j => ?_, fun i j => ?_, fun i j => ?_, fun i j => ?_⟩
  · rw [← slice_at (by decide) x17 slices_S11x32_S2x32_0_0 i j]
    exact finite_of _ _ _ _ _ _ t3 _
  · rw [← slice_at (by decide) x18 slices_S34x32_S2x32_0_0 i j]
    exact finite_of _ _ _ _ _ _ t4 _
  · rw [← slice_at (by decide) x19 slices_S19x32_S2x32_0_0 i j]
    exact finite_of _ _ _ _ _ _ t5 _
  · rw [← slice_at (by decide) x20 slices_S31x32_S2x32_0_0 i j]
    exact finite_of _ _ _ _ _ _ t6 _

end Cert.Pre_binary_codes_finite_tables.Decode

end
-- ==== Proof.Agree.lean ====
/-
  The agreement: under the precondition the kernel's result array and the reference's are equal, entry by entry.
-/
module

public import proofs.«01_k».proof.Proof.Final
public import proofs.«01_k».proof.Proof.RefValue
public import proofs.«01_k».proof.Proof.Precondition

@[expose] public section

noncomputable section

namespace Cert.Agree

open Cert.KernelIdeal Cert.KernelIdeal.Gen Cert.KernelIdeal.Host Cert.KernelIdeal.Block
open Cert.ReferenceIdeal.AtEntry Cert.Pre_binary_codes_finite_tables.Decode Cert.Maths
open Idealize.ShloMosaic Idealize.ShloMosaic.TcCoe Idealize.SL.Sem

variable (m : (ℓ : Loc nD τ sig) → Buf (Elt Ideal) ℓ) (c : Dev nD)

/-- What the precondition says of device `c`'s arguments. -/
abbrev Holds : Prop :=
  Met (catP m c) (catC m c) (tab0 m c) (tab1 m c) (tab2 m c) (tab3 m c) (tab4 m c) (tab5 m c) (tab6 m c)

/-- The reference's result array over the kernel's arguments. -/
abbrev want : S4096x200x128.Idx → EReal :=
  Cert.ReferenceIdeal.Read.val_main_v110 (F := Ideal) (contP m c) (contC m c) (catP m c) (catC m c) (w1P m c) (b1P m c) (w2P m c) (b2P m c)
    (w1C m c) (b1C m c) (w2C m c) (b2C m c) (tab0 m c) (tab1 m c) (tab2 m c) (tab3 m c) (tab4 m c) (tab5 m c) (tab6 m c)

/-- The two readings of a table's first two rows are the same. -/
theorem row_eq (q : Fin 7) (i : Fin 2) (j : Fin 32) :
    rows (tab0 m c) (tab1 m c) (tab2 m c) (tab3 m c) (tab4 m c) (tab5 m c) (tab6 m c) q i j = row m c q i j := by
  fin_cases q <;> rfl

/-- The first two rows of every table are finite. -/
theorem row_finite (hm : Holds m c) (q : Fin 7) (i : Fin 2) (j : Fin 32) : row m c q i j ≠ ⊤ ∧ row m c q i j ≠ ⊥ := by
  fin_cases q
  · exact hm.tab0 _
  · exact hm.tab1 _
  · exact hm.tab2 _
  · exact hm.tab3 i j
  · exact hm.tab4 i j
  · exact hm.tab5 i j
  · exact hm.tab6 i j

/-- The entries agree. -/
theorem entry_eq (hm : Holds m c) (b : Fin 4096) (s : Fin 200) (j : Fin 128) :
    @Eq EReal (result m c b s j) (want m c (ix3 b s j)) := by
  refine Eq.trans ?_ (whole_at (contP m c) (contC m c) (catP m c) (catC m c) (w1P m c) (b1P m c) (w2P m c) (b2P m c)
    (w1C m c) (b1C m c) (w2C m c) (b2C m c) (tab0 m c) (tab1 m c) (tab2 m c) (tab3 m c) (tab4 m c) (tab5 m c) (tab6 m c) b s j
    (fun q => hm.codesP _) (fun q => hm.codesC _)).symm
  unfold result
  by_cases h : j.val < 32
  · rw [dif_pos h, dif_pos h]
    simp only [row_eq]
    exact mean_finite (fun q : Fin 5 => catP m c (ix3 b s q)) (fun q => hm.codesP _) (fun q => row m c ⟨q, by omega⟩ 0 ⟨j, h⟩)
      (fun q => row m c ⟨q, by omega⟩ 1 ⟨j, h⟩) (fun q => row_finite m c hm _ _ _) (fun q => row_finite m c hm _ _ _) 5 (by norm_num)
  · rw [dif_neg h, dif_neg h]
    by_cases h' : j.val - 32 < 32
    · rw [dif_pos h', dif_pos h']
      simp only [row_eq]
      exact mean_finite (fun q : Fin 2 => catC m c (ix3 b s q)) (fun q => hm.codesC _) (fun q => row m c ⟨5 + q, by omega⟩ 0 ⟨j - 32, h'⟩)
        (fun q => row m c ⟨5 + q, by omega⟩ 1 ⟨j - 32, h'⟩) (fun q => row_finite m c hm _ _ _) (fun q => row_finite m c hm _ _ _) 2 (by norm_num)
    · rw [dif_neg h', dif_neg h']

/-- The kernel's result array after the run is the reference's. -/
theorem array_eq (hm : Holds m c) : (dats m 0 c).arrAt 5 cfg0.N = want m c := by
  funext i
  idx_vars i
  exact (final_at m c _ _ _).trans (entry_eq m c hm _ _ _)

end Cert.Agree

end
-- ==== Proof.Claims.lean ====
/-
  The claims, one by one: the frames, the named constant, and the equality of results.
-/
module

public import proofs.«01_k».proof.Defs
public import proofs.«01_k».proof.Proof.Gen.Kernel.Frame
public import proofs.«01_k».proof.Proof.Gen.ReferenceIdeal.Run
public import proofs.«01_k».proof.Proof.Agree
public import Idealize.ShloMosaic.Lib.Quiescent

@[expose] public section

noncomputable section

namespace Cert.Proof.Claims

open Idealize.ShloMosaic Idealize.ShloMosaic.TcCoe Idealize.SL.Sem

/-- The kernel ends with its arguments unchanged and its counters at zero. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- under the precondition too, -/
theorem frame_ideal_pre : Cert.quiescent_KernelIdeal_pre_binary_codes_finite_tables := fun m ρ _ => Cert.KernelIdeal.Gen.frame m ρ

/-- and the reference, which has no counters. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference_pre : Cert.quiescent_ReferenceIdeal_pre_binary_codes_finite_tables := fun m ρ _ => frame_reference m ρ trivial

/-- The constant named "fifth" is one fifth. -/
theorem preserves : Cert.preserves_Kernel_KernelIdeal :=
  IdealRules.named_const.statement Cert.KernelIdeal.κ "fifth" .f32 0x3E4CCCCD#32 ((1 / 5 : ℝ) : EReal) rfl

/-- Under the precondition the idealized kernel and the reference end with equal results. -/
theorem algebraic : Cert.algebraic_KernelIdeal_ReferenceIdeal_pre_binary_codes_finite_tables := by
  intro m ρ m' ρ' hpre hagree
  refine ⟨fun c => (Cert.KernelIdeal.Gen.dats m 0 c).arrAt 5 Cert.KernelIdeal.cfg0.N,
    fun c => m ((c.tc : Thread Cert.KernelIdeal.nD Cert.KernelIdeal.τ).loc Cert.KernelIdeal.main_arg5),
    fun c => m ((c.tc : Thread Cert.KernelIdeal.nD Cert.KernelIdeal.τ).loc Cert.KernelIdeal.main_arg4), ?_, ?_⟩
  · refine (θ_run Cert.KernelIdeal.defs _ _).mono (fun r h c => ?_) (Cert.KernelIdeal.Value.run_blocks (F := Ideal) m ρ)
    obtain ⟨hv, hargs⟩ := h c
    exact ⟨hv, hargs.2.2.2.2.2.1, hargs.2.2.2.2.1, hargs⟩
  · refine (θ_run Cert.ReferenceIdeal.defs _ _).mono (fun r h c => ?_) (Cert.ReferenceIdeal.Value.run (F := Ideal) m' ρ')
    obtain ⟨hv, h5, h4, hargs⟩ := h c
    obtain ⟨a0, a1, a2, a3, a4, a5, a6, a7, a8, a9, a10, a11, a12, a13, a14, a15, a16, a17, a18, a19, a20⟩ := hagree c
    refine ⟨hv.trans ?_, h5.trans a5, h4.trans a4, hargs⟩
    have hm : Cert.Agree.Holds m c := Cert.Pre_binary_codes_finite_tables.Decode.met_of _ _ _ _ _ _ _ _ _ _ _ _ _ _ _ _ _ _ _ _ _ (hpre c)
    refine Eq.trans ?_ (Cert.Agree.array_eq m c hm).symm
    rw [Cert.ReferenceIdeal.Read.val_main_v110_eq, a0, a1, a2, a3, a6, a7, a8, a9, a10, a11, a12, a13, a14, a15, a16, a17, a18, a19, a20]

end Cert.Proof.Claims

end
-- ==== Proof.lean ====
/-
  The certificate: every claim of `Cert.Claim`, each proved in the module it is cited from.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_binary_codes_finite_tables
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The frames of the three programs, the named constant, and the equality of the idealized kernel's and the reference's results. -/
theorem claim : Cert.Claim := ⟨Cert.Kernel.Gen.facts, Cert.KernelIdeal.Gen.facts, Cert.ReferenceIdeal.Gen.facts, Cert.Pre_binary_codes_finite_tables.Gen.facts,
  Claims.frame_kernel, Claims.frame_ideal, Claims.frame_ideal_pre, Claims.frame_reference, Claims.frame_reference_pre,
  Claims.preserves, Claims.algebraic⟩

end Cert.Proof

end
